-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_exact_sums [hPre_exact_sums : Cert.Pre_exact_sums.Facts] (m : (ℓ : Loc Cert.KernelIdeal.nD Cert.KernelIdeal.τ Cert.KernelIdeal.sig) → Buf (Elt Ideal) ℓ) : Prop :=
  ∀ c : Dev Cert.KernelIdeal.nD,
    (Cert.Pre_exact_sums.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_exact_sums [hPre_exact_sums : Cert.Pre_exact_sums.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_exact_sums.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_exact_sums [hKernelIdeal : Cert.KernelIdeal.Facts] [hPre_exact_sums : Cert.Pre_exact_sums.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_exact_sums m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_exact_sums [hReferenceIdeal : Cert.ReferenceIdeal.Facts] [hPre_exact_sums : Cert.Pre_exact_sums.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_exact_sums m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_127_squared" .f32 0x38820610#32 ((16129⁻¹ : ℝ) : EReal)

def algebraic_KernelIdeal_ReferenceIdeal_pre_exact_sums [hKernelIdeal : Cert.KernelIdeal.Facts] [hReferenceIdeal : Cert.ReferenceIdeal.Facts] [hPre_exact_sums : Cert.Pre_exact_sums.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_exact_sums m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_exact_sums : Cert.Pre_exact_sums.Facts),
    quiescent_Kernel (hKernel := hKernel)
    ∧ quiescent_KernelIdeal (hKernelIdeal := hKernelIdeal)
    ∧ quiescent_KernelIdeal_pre_exact_sums (hKernelIdeal := hKernelIdeal) (hPre_exact_sums := hPre_exact_sums)
    ∧ quiescent_ReferenceIdeal (hReferenceIdeal := hReferenceIdeal)
    ∧ quiescent_ReferenceIdeal_pre_exact_sums (hReferenceIdeal := hReferenceIdeal) (hPre_exact_sums := hPre_exact_sums)
    ∧ preserves_Kernel_KernelIdeal
    ∧ algebraic_KernelIdeal_ReferenceIdeal_pre_exact_sums (hKernelIdeal := hKernelIdeal) (hReferenceIdeal := hReferenceIdeal) (hPre_exact_sums := hPre_exact_sums)
-- ==== Pre_exact_sums.lean ====
abbrev S10000x128 : Shape := ⟨2, ![10000, 128]⟩
abbrev S10000x10000 : Shape := ⟨2, ![10000, 10000]⟩
abbrev S128x256 : Shape := ⟨2, ![128, 256]⟩
abbrev S128 : Shape := ⟨1, ![128]⟩
abbrev S_ : Shape := ⟨0, ![]⟩
abbrev S10000x256 : Shape := ⟨2, ![10000, 256]⟩
abbrev S256x128 : Shape := ⟨2, ![256, 128]⟩
abbrev S1x128 : Shape := ⟨2, ![1, 128]⟩
abbrev S10000 : Shape := ⟨1, ![10000]⟩
abbrev S10000x1 : Shape := ⟨2, ![10000, 1]⟩
abbrev S128x128 : Shape := ⟨2, ![128, 128]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x256 : S_.BroadcastsInDim S128x256 (![] : Fin 0 → Fin S128x256.rank)
  reducesTo_S128x256_S_d0_1 : S128x256.ReducesTo [0, 1] S_
  concatenates_S10000x128_S10000x128_S10000x256_d1 : Shape.Concatenates [S10000x128, S10000x128] S10000x256 1
  transposes_S128x256_S256x128_1_0 : S128x256.Transposes [1, 0] S256x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  reducesTo_S10000x128_S10000_d1 : S10000x128.ReducesTo [1] S10000
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  slices_S128x256_S128x128_0_128 : S128x256.Slices ![0, 128] S128x128
  transposes_S128x128_S128x128_1_0 : S128x128.Transposes [1, 0] S128x128
  reducesTo_S10000x128_S128_d0 : S10000x128.ReducesTo [0] S128
  bcast_S_S1x128 : S_.BroadcastsInDim S1x128 (![] : Fin 0 → Fin S1x128.rank)
  dot_S10000x10000_S10000x128_S10000x128_1_0_0_1_n_n_wf : DotDims.WF S10000x10000 S10000x128 S10000x128 [1] [0] [0] [1] [] []
  dot_S10000x256_S256x128_S10000x128_1_0_0_1_n_n_wf : DotDims.WF S10000x256 S256x128 S10000x128 [1] [0] [0] [1] [] []
  dot_S10000x128_S128x128_S10000x128_1_0_0_1_n_n_wf : DotDims.WF S10000x128 S128x128 S10000x128 [1] [0] [0] [1] [] []

variable [Facts]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def fn_norm {F : FTy → Type} [FloatOps F] (arg0 : FVec F S10000x128 .f32) : FVec F S10000x1 .f32 :=
  let v0 : FVec F S10000x128 .f32 := mulf arg0 arg0
  let cst : FVec F S_ .f32 := constant S_ .f32 0x00000000#32
  let v1 : FVec F S10000 .f32 := (fun x v => Host.reduceAdd x v reducesTo_S10000x128_S10000_d1 h_S_) v0 cst
  let v2 : FVec F S10000x1 .f32 := broadcastInDim S10000x1 ![0] bcast_S10000_S10000x1_0 v1
  let v3 : FVec F S10000x1 .f32 := Host.sqrt v2
  v3

def fn_relu {F : FTy → Type} [FloatOps F] (arg0 : FVec F S10000x128 .f32) : FVec F S10000x128 .f32 :=
  let cst : FVec F S_ .f32 := constant S_ .f32 0x00000000#32
  let v0 : FVec F S10000x128 .f32 := broadcastInDim S10000x128 ![] bcast_S_S10000x128 cst
  let v1 : FVec F S10000x128 .f32 := maximumf arg0 v0
  v1

def fn_round {F : FTy → Type} [FloatOps F] (arg0 : FVec F S10000x128 .f32) : FVec F S10000x128 .f32 :=
  let v0 : FVec F S10000x128 .f32 := Host.roundeven arg0
  v0

def fn_clip {F : FTy → Type} [FloatOps F] (arg0 : FVec F S10000x128 .f32) (arg1 : FVec F S_ .f32) (arg2 : FVec F S_ .f32) : FVec F S10000x128 .f32 :=
  let v0 : FVec F S_ .f32 := id arg1
  let v1 : FVec F S10000x128 .f32 := broadcastInDim S10000x128 ![] bcast_S_S10000x128 v0
  let v2 : FVec F S10000x128 .f32 := maximumf v1 arg0
  let v3 : FVec F S_ .f32 := id arg2
  let v4 : FVec F S10000x128 .f32 := broadcastInDim S10000x128 ![] bcast_S_S10000x128 v3
  let v5 : FVec F S10000x128 .f32 := minimumf v4 v2
  v5

def fn_clip_0 {F : FTy → Type} [FloatOps F] (arg0 : FVec F S10000x10000 .f32) (arg1 : FVec F S_ .f32) (arg2 : FVec F S_ .f32) : FVec F S10000x10000 .f32 :=
  let v0 : FVec F S_ .f32 := id arg1
  let v1 : FVec F S10000x10000 .f32 := broadcastInDim S10000x10000 ![] bcast_S_S10000x10000 v0
  let v2 : FVec F S10000x10000 .f32 := maximumf v1 arg0
  let v3 : FVec F S_ .f32 := id arg2
  let v4 : FVec F S10000x10000 .f32 := broadcastInDim S10000x10000 ![] bcast_S_S10000x10000 v3
  let v5 : FVec F S10000x10000 .f32 := minimumf v4 v2
  v5

def fn_part3 {F : FTy → Type} [FloatOps F] (main_v13 : IVec S_ 1) (main_v53 : IVec S_ 1) : IVec S_ 1 :=
  let main_v54 : IVec S_ 1 := andi main_v13 main_v53
  main_v54

def fn_part2 {F : FTy → Type} [FloatOps F] (main_arg1 : FVec F S10000x10000 .f32) (main_v13 : IVec S_ 1) (main_v29 : FVec F S10000x128 .f32) (main_v37 : FVec F S10000x128 .f32) : IVec S_ 1 :=
  let main_v38 : FVec F S10000x128 .f32 := Host.divf main_v29 main_v37
  let main_v39 : FVec F S10000x128 .f32 := fn_round (F := F) main_v38
  let main_cst_8 : FVec F S_ .f32 := constant S_ .f32 0xC2FE0000#32
  let main_cst_9 : FVec F S_ .f32 := constant S_ .f32 0x42FE0000#32
  let main_v40 : FVec F S10000x128 .f32 := fn_clip (F := F) main_v39 main_cst_8 main_cst_9
  let main_cst_10 : FVec F S_ .f32 := constant S_ .f32 0x42FE0000#32
  let main_v41 : FVec F S10000x10000 .f32 := broadcastInDim S10000x10000 ![] bcast_S_S10000x10000 main_cst_10
  let main_v42 : FVec F S10000x10000 .f32 := mulf main_arg1 main_v41
  let main_cst_11 : FVec F S_ .f32 := constant S_ .f32 0x3F000000#32
  let main_v43 : FVec F S10000x10000 .f32 := broadcastInDim S10000x10000 ![] bcast_S_S10000x10000 main_cst_11
  let main_v44 : FVec F S10000x10000 .f32 := addf main_v42 main_v43
  let main_cst_12 : FVec F S_ .f32 := constant S_ .f32 0xC3000000#32
  let main_cst_13 : FVec F S_ .f32 := constant S_ .f32 0x42FE0000#32
  let main_v45 : FVec F S10000x10000 .f32 := fn_clip_0 (F := F) main_v44 main_cst_12 main_cst_13
  let main_v46 : IVec S10000x10000 32 := fptosi 32 main_v45
  let main_v47 : FVec F S10000x10000 .f32 := sitofp .f32 main_v46
  let main_v48 : FVec F S10000x10000 .f32 := Host.absf main_v47
  let main_v49 : FVec F S10000x128 .f32 := Host.absf main_v40
  let main_v50 : FVec F S10000x128 .f32 := (fun l r => Host.dotGeneral dot_S10000x10000_S10000x128_S10000x128_1_0_0_1_n_n none l r) main_v48 main_v49
  let main_cst_14 : FVec F S_ .f32 := constant S_ .f32 0x4C800000#32
  let main_v51 : FVec F S10000x128 .f32 := broadcastInDim S10000x128 ![] bcast_S_S10000x128 main_cst_14
  let main_v52 : IVec S10000x128 1 := cmpf .ole main_v50 main_v51
  let main_c_15 : IVec S_ 1 := constantI S_ 1 1#1
  let main_v53 : IVec S_ 1 := (fun x v => Host.reduce IntOp.andi x v reducesTo_S10000x128_S_d0_1 h_S_) main_v52 main_c_15
  fn_part3 (F := F) main_v13 main_v53

def fn_part1 {F : FTy → Type} [FloatOps F] (main_arg1 : FVec F S10000x10000 .f32) (main_arg3 : FVec F S128 .f32) (main_arg4 : FVec F S128x256 .f32) (main_v13 : IVec S_ 1) (main_v17 : FVec F S10000x128 .f32) : IVec S_ 1 :=
  let main_v18 : FVec F S1x128 .f32 := broadcastInDim S1x128 ![1] bcast_S128_S1x128_1 main_arg3
  let main_v19 : FVec F S10000x128 .f32 := broadcastInDim S10000x128 ![0, 1] bcast_S1x128_S10000x128_0_1 main_v18
  let main_v20 : FVec F S10000x128 .f32 := addf main_v17 main_v19
  let main_v21 : FVec F S10000x1 .f32 := fn_norm (F := F) main_v20
  let main_cst_4 : FVec F S_ .f32 := constant S_ .f32 0x2B8CBCCC#32
  let main_v22 : FVec F S10000x1 .f32 := broadcastInDim S10000x1 ![] bcast_S_S10000x1 main_cst_4
  let main_v23 : FVec F S10000x1 .f32 := maximumf main_v21 main_v22
  let main_v24 : FVec F S10000x128 .f32 := broadcastInDim S10000x128 ![0, 1] bcast_S10000x1_S10000x128_0_1 main_v23
  let main_v25 : FVec F S10000x128 .f32 := Host.divf main_v20 main_v24
  let main_v26 : FVec F S10000x128 .f32 := fn_relu (F := F) main_v25
  let main_v27 : FVec F S128x128 .f32 := (extractStridedSlice S128x128 ![0, 128] · slices_S128x256_S128x128_0_128) main_arg4
  let main_v28 : FVec F S128x128 .f32 := (transpose S128x128 [1, 0] · transposes_S128x128_S128x128_1_0) main_v27
  let main_v29 : FVec F S10000x128 .f32 := (fun l r => Host.dotGeneral dot_S10000x128_S128x128_S10000x128_1_0_0_1_n_n none l r) main_v26 main_v28
  let main_v30 : FVec F S10000x128 .f32 := Host.absf main_v29
  let main_cst_5 : FVec F S_ .f32 := constant S_ .f32 0xFF800000#32
  let main_v31 : FVec F S128 .f32 := (fun x v => Host.reduce FloatOps.maximumf x v reducesTo_S10000x128_S128_d0 h_S_) main_v30 main_cst_5
  let main_v32 : FVec F S1x128 .f32 := broadcastInDim S1x128 ![1] bcast_S128_S1x128_1 main_v31
  let main_cst_6 : FVec F S_ .f32 := constant S_ .f32 0x0DA24260#32
  let main_v33 : FVec F S1x128 .f32 := broadcastInDim S1x128 ![] bcast_S_S1x128 main_cst_6
  let main_v34 : FVec F S1x128 .f32 := maximumf main_v32 main_v33
  let main_cst_7 : FVec F S_ .f32 := constant S_ .f32 0x42FE0000#32
  let main_v35 : FVec F S1x128 .f32 := broadcastInDim S1x128 ![] bcast_S_S1x128 main_cst_7
  let main_v36 : FVec F S1x128 .f32 := Host.divf main_v34 main_v35
  let main_v37 : FVec F S10000x128 .f32 := broadcastInDim S10000x128 ![0, 1] bcast_S1x128_S10000x128_0_1 main_v36
  fn_part2 (F := F) main_arg1 main_v13 main_v29 main_v37

def fn {F : FTy → Type} [FloatOps F] (main_arg0 : FVec F S10000x128 .f32) (main_arg1 : FVec F S10000x10000 .f32) (main_arg2 : FVec F S128x256 .f32) (main_arg3 : FVec F S128 .f32) (main_arg4 : FVec F S128x256 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S10000x128 .f32 := (fun l r => Host.dotGeneral dot_S10000x10000_S10000x128_S10000x128_1_0_0_1_n_n none l r) main_arg1 main_arg0
  let main_v15 : FVec F S10000x256 .f32 := (fun a b => concatenate S10000x256 1 [⟨S10000x128, a⟩, ⟨S10000x128, b⟩] concatenates_S10000x128_S10000x128_S10000x256_d1) main_arg0 main_v14
  let main_v16 : FVec F S256x128 .f32 := (transpose S256x128 [1, 0] · transposes_S128x256_S256x128_1_0) main_arg2
  let main_v17 : FVec F S10000x128 .f32 := (fun l r => Host.dotGeneral dot_S10000x256_S256x128_S10000x128_1_0_0_1_n_n none l r) main_v15 main_v16
  fn_part1 (F := F) main_arg1 main_arg3 main_arg4 main_v13 main_v17
-- ==== Kernel.lean ====
abbrev S10000x128 : Shape := ⟨2, ![10000, 128]⟩
abbrev S10000x10000 : Shape := ⟨2, ![10000, 10000]⟩
abbrev S128x256 : Shape := ⟨2, ![128, 256]⟩
abbrev S128 : Shape := ⟨1, ![128]⟩
abbrev S1x128 : Shape := ⟨2, ![1, 128]⟩
abbrev S1000x128 : Shape := ⟨2, ![1000, 128]⟩
abbrev S128x128 : Shape := ⟨2, ![128, 128]⟩
abbrev S400x10000 : Shape := ⟨2, ![400, 10000]⟩
abbrev S400x128 : Shape := ⟨2, ![400, 128]⟩
abbrev S400 : Shape := ⟨1, ![400]⟩
abbrev S400x1 : Shape := ⟨2, ![400, 1]⟩

abbrev nBuf : Space → Nat
  | .hbm => 16
  | .vmem => 32
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x256, .f32⟩
  | .hbm, ⟨3, _⟩ => ⟨S128, .f32⟩
  | .hbm, ⟨4, _⟩ => ⟨S128x256, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S10000x128, .f32⟩
  | .hbm, ⟨9, _⟩ => ⟨S10000x128, .f32⟩
  | .hbm, ⟨10, _⟩ => ⟨S10000x128, .f32⟩
  | .hbm, ⟨11, _⟩ => ⟨S10000x128, .f32⟩
  | .hbm, ⟨12, _⟩ => ⟨S10000x10000, .i8⟩
  | .hbm, ⟨13, _⟩ => ⟨S10000x128, .i8⟩
  | .hbm, ⟨14, _⟩ => ⟨S1x128, .f32⟩
  | .hbm, ⟨15, _⟩ => ⟨S10000x128, .f32⟩
  | .local _ .vmem, ⟨0, _⟩ => ⟨S1000x128, .f32⟩
  | .local _ .vmem, ⟨1, _⟩ => ⟨S1000x128, .f32⟩
  | .local _ .vmem, ⟨2, _⟩ => ⟨S128x256, .f32⟩
  | .local _ .vmem, ⟨3, _⟩ => ⟨S1x128, .f32⟩
  | .local _ .vmem, ⟨4, _⟩ => ⟨S1000x128, .f32⟩
  | .local _ .vmem, ⟨5, _⟩ => ⟨S1000x128, .f32⟩
  | .local _ .vmem, ⟨6, _⟩ => ⟨S1000x128, .f32⟩
  | .local _ .vmem, ⟨7, _⟩ => ⟨S1000x128, .f32⟩
  | .local _ .vmem, ⟨8, _⟩ => ⟨S400x10000, .f32⟩
  | .local _ .vmem, ⟨9, _⟩ => ⟨S400x10000, .f32⟩
  | .local _ .vmem, ⟨10, _⟩ => ⟨S10000x128, .f32⟩
  | .local _ .vmem, ⟨11, _⟩ => ⟨S400x128, .f32⟩
  | .local _ .vmem, ⟨12, _⟩ => ⟨S400x128, .f32⟩
  | .local _ .vmem, ⟨13, _⟩ => ⟨S128x256, .f32⟩
  | .local _ .vmem, ⟨14, _⟩ => ⟨S1x128, .f32⟩
  | .local _ .vmem, ⟨15, _⟩ => ⟨S400x128, .f32⟩
  | .local _ .vmem, ⟨16, _⟩ => ⟨S400x128, .f32⟩
  | .local _ .vmem, ⟨17, _⟩ => ⟨S400x128, .f32⟩
  | .local _ .vmem, ⟨18, _⟩ => ⟨S400x128, .f32⟩
  | .local _ .vmem, ⟨19, _⟩ => ⟨S400x10000, .i8⟩
  | .local _ .vmem, ⟨20, _⟩ => ⟨S400x10000, .i8⟩
  | .local _ .vmem, ⟨21, _⟩ => ⟨S10000x128, .f32⟩
  | .local _ .vmem, ⟨22, _⟩ => ⟨S10000x128, .i8⟩
  | .local _ .vmem, ⟨23, _⟩ => ⟨S1x128, .f32⟩
  | .local _ .vmem, ⟨24, _⟩ => ⟨S400x10000, .i8⟩
  | .local _ .vmem, ⟨25, _⟩ => ⟨S400x10000, .i8⟩
  | .local _ .vmem, ⟨26, _⟩ => ⟨S10000x128, .i8⟩
  | .local _ .vmem, ⟨27, _⟩ => ⟨S1x128, .f32⟩
  | .local _ .vmem, ⟨28, _⟩ => ⟨S400x128, .f32⟩
  | .local _ .vmem, ⟨29, _⟩ => ⟨S400x128, .f32⟩
  | .local _ .vmem, ⟨30, _⟩ => ⟨S400x128, .f32⟩
  | .local _ .vmem, ⟨31, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v4_0 : Ref sig .tc := ⟨.hbm, 13, rfl⟩
abbrev main_v4_1 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc2_stg0_0 : Ref sig .tc := ⟨.vmem, 21, rfl⟩
abbrev cc2_stg1_0 : Ref sig .tc := ⟨.vmem, 22, rfl⟩
abbrev cc2_stg2_0 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc3_stg4_0 : Ref sig .tc := ⟨.vmem, 30, rfl⟩
abbrev cc3_stg4_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc1_sem6_0 : DmaSem sig := 17
abbrev cc1_sem6_1 : DmaSem sig := 18
abbrev cc1_sem7_0 : DmaSem sig := 19
abbrev cc1_sem7_1 : DmaSem sig := 20
abbrev cc2_sem0_0 : DmaSem sig := 21
abbrev cc2_sem1_0 : DmaSem sig := 22
abbrev cc2_sem2_0 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem3_1 : DmaSem sig := 29
abbrev cc3_sem4_0 : DmaSem sig := 30
abbrev cc3_sem4_1 : DmaSem sig := 31

abbrev nD : Nat := 1
abbrev τ : Topo := Topo.v5e

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S400x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S400x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S400x10000 .i8 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S10000x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S10000x128 .i8 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .i8 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x128 .i8 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S400x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S400x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]
-- ==== KernelIdeal.lean ====
variable {F : FTy → Type} [FloatOps F] [Named F]
def κ : String → Option EReal := fun
  | "inv_127_squared" => some ((16129⁻¹ : ℝ) : EReal)
  | _ => none
-- ==== ReferenceIdeal.lean ====
abbrev S10000x128 : Shape := ⟨2, ![10000, 128]⟩
abbrev S10000x10000 : Shape := ⟨2, ![10000, 10000]⟩
abbrev S128x256 : Shape := ⟨2, ![128, 256]⟩
abbrev S128 : Shape := ⟨1, ![128]⟩
abbrev S10000x256 : Shape := ⟨2, ![10000, 256]⟩
abbrev S256x128 : Shape := ⟨2, ![256, 128]⟩
abbrev S1x128 : Shape := ⟨2, ![1, 128]⟩
abbrev S_ : Shape := ⟨0, ![]⟩
abbrev S10000 : Shape := ⟨1, ![10000]⟩
abbrev S10000x1 : Shape := ⟨2, ![10000, 1]⟩
abbrev S128x128 : Shape := ⟨2, ![128, 128]⟩

abbrev nBuf : Space → Nat
  | .hbm => 89
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x256, .f32⟩
  | .hbm, ⟨3, _⟩ => ⟨S128, .f32⟩
  | .hbm, ⟨4, _⟩ => ⟨S128x256, .f32⟩
  | .hbm, ⟨5, _⟩ => ⟨S128, .f32⟩
  | .hbm, ⟨6, _⟩ => ⟨S10000x128, .f32⟩
  | .hbm, ⟨7, _⟩ => ⟨S10000x256, .f32⟩
  | .hbm, ⟨8, _⟩ => ⟨S256x128, .f32⟩
  | .hbm, ⟨9, _⟩ => ⟨S10000x128, .f32⟩
  | .hbm, ⟨10, _⟩ => ⟨S1x128, .f32⟩
  | .hbm, ⟨11, _⟩ => ⟨S10000x128, .f32⟩
  | .hbm, ⟨12, _⟩ => ⟨S10000x128, .f32⟩
  | .hbm, ⟨13, _⟩ => ⟨S10000x128, .f32⟩
  | .hbm, ⟨14, _⟩ => ⟨S_, .f32⟩
  | .hbm, ⟨15, _⟩ => ⟨S10000, .f32⟩
  | .hbm, ⟨16, _⟩ => ⟨S10000x1, .f32⟩
  | .hbm, ⟨17, _⟩ => ⟨S10000x1, .f32⟩
  | .hbm, ⟨18, _⟩ => ⟨S_, .f32⟩
  | .hbm, ⟨19, _⟩ => ⟨S10000x1, .f32⟩
  | .hbm, ⟨20, _⟩ => ⟨S10000x1, .f32⟩
  | .hbm, ⟨21, _⟩ => ⟨S10000x128, .f32⟩
  | .hbm, ⟨22, _⟩ => ⟨S10000x128, .f32⟩
  | .hbm, ⟨23, _⟩ => ⟨S_, .f32⟩
  | .hbm, ⟨24, _⟩ => ⟨S10000x128, .f32⟩
  | .hbm, ⟨25, _⟩ => ⟨S10000x128, .f32⟩
  | .hbm, ⟨26, _⟩ => ⟨S_, .f32⟩
  | .hbm, ⟨27, _⟩ => ⟨S10000x10000, .f32⟩
  | .hbm, ⟨28, _⟩ => ⟨S10000x10000, .f32⟩
  | .hbm, ⟨29, _⟩ => ⟨S_, .f32⟩
  | .hbm, ⟨30, _⟩ => ⟨S10000x10000, .f32⟩
  | .hbm, ⟨31, _⟩ => ⟨S10000x10000, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S10000x10000, .f32⟩
  | .hbm, ⟨36, _⟩ => ⟨S10000x10000, .f32⟩
  | .hbm, ⟨37, _⟩ => ⟨S_, .f32⟩
  | .hbm, ⟨38, _⟩ => ⟨S10000x10000, .f32⟩
  | .hbm, ⟨39, _⟩ => ⟨S10000x10000, .f32⟩
  | .hbm, ⟨40, _⟩ => ⟨S10000x10000, .i32⟩
  | .hbm, ⟨41, _⟩ => ⟨S10000x10000, .f32⟩
  | .hbm, ⟨42, _⟩ => ⟨S_, .f32⟩
  | .hbm, ⟨43, _⟩ => ⟨S10000x10000, .f32⟩
  | .hbm, ⟨44, _⟩ => ⟨S10000x10000, .f32⟩
  | .hbm, ⟨45, _⟩ => ⟨S128x128, .f32⟩
  | .hbm, ⟨46, _⟩ => ⟨S128x128, .f32⟩
  | .hbm, ⟨47, _⟩ => ⟨S10000x128, .f32⟩
  | .hbm, ⟨48, _⟩ => ⟨S10000x128, .f32⟩
  | .hbm, ⟨49, _⟩ => ⟨S_, .f32⟩
  | .hbm, ⟨50, _⟩ => ⟨S128, .f32⟩
  | .hbm, ⟨51, _⟩ => ⟨S1x128, .f32⟩
  | .hbm, ⟨52, _⟩ => ⟨S_, .f32⟩
  | .hbm, ⟨53, _⟩ => ⟨S1x128, .f32⟩
  | .hbm, ⟨54, _⟩ => ⟨S1x128, .f32⟩
  | .hbm, ⟨55, _⟩ => ⟨S_, .f32⟩
  | .hbm, ⟨56, _⟩ => ⟨S1x128, .f32⟩
  | .hbm, ⟨57, _⟩ => ⟨S1x128, .f32⟩
  | .hbm, ⟨58, _⟩ => ⟨S10000x128, .f32⟩
  | .hbm, ⟨59, _⟩ => ⟨S10000x128, .f32⟩
  | .hbm, ⟨60, _⟩ => ⟨S10000x128, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S10000x128, .f32⟩
  | .hbm, ⟨65, _⟩ => ⟨S10000x128, .f32⟩
  | .hbm, ⟨66, _⟩ => ⟨S_, .f32⟩
  | .hbm, ⟨67, _⟩ => ⟨S10000x128, .f32⟩
  | .hbm, ⟨68, _⟩ => ⟨S10000x128, .f32⟩
  | .hbm, ⟨69, _⟩ => ⟨S10000x128, .f32⟩
  | .hbm, ⟨70, _⟩ => ⟨S10000x128, .f32⟩
  | .hbm, ⟨71, _⟩ => ⟨S128x128, .f32⟩
  | .hbm, ⟨72, _⟩ => ⟨S128x128, .f32⟩
  | .hbm, ⟨73, _⟩ => ⟨S10000x128, .f32⟩
  | .hbm, ⟨74, _⟩ => ⟨S10000x128, .f32⟩
  | .hbm, ⟨75, _⟩ => ⟨S10000x128, .f32⟩
  | .hbm, ⟨76, _⟩ => ⟨S1x128, .f32⟩
  | .hbm, ⟨77, _⟩ => ⟨S10000x128, .f32⟩
  | .hbm, ⟨78, _⟩ => ⟨S10000x128, .f32⟩
  | .hbm, ⟨79, _⟩ => ⟨S10000x128, .f32⟩
  | .hbm, ⟨80, _⟩ => ⟨S_, .f32⟩
  | .hbm, ⟨81, _⟩ => ⟨S10000, .f32⟩
  | .hbm, ⟨82, _⟩ => ⟨S10000x1, .f32⟩
  | .hbm, ⟨83, _⟩ => ⟨S10000x1, .f32⟩
  | .hbm, ⟨84, _⟩ => ⟨S_, .f32⟩
  | .hbm, ⟨85, _⟩ => ⟨S10000x1, .f32⟩
  | .hbm, ⟨86, _⟩ => ⟨S10000x1, .f32⟩
  | .hbm, ⟨87, _⟩ => ⟨S10000x128, .f32⟩
  | .hbm, ⟨88, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_cst : Ref sig .tc := ⟨.hbm, 14, rfl⟩
abbrev main_call0_v1 : Ref sig .tc := ⟨.hbm, 15, rfl⟩
abbrev main_call0_v2 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call1_cst : Ref sig .tc := ⟨.hbm, 23, rfl⟩
abbrev main_call1_v0 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_cst_3 : Ref sig .tc := ⟨.hbm, 33, rfl⟩
abbrev main_call2_v0 : Ref sig .tc := ⟨.hbm, 34, rfl⟩
abbrev main_call2_v1 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_4 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_5 : Ref sig .tc := ⟨.hbm, 49, rfl⟩
abbrev main_v26 : Ref sig .tc := ⟨.hbm, 50, rfl⟩
abbrev main_v27 : Ref sig .tc := ⟨.hbm, 51, rfl⟩
abbrev main_cst_6 : Ref sig .tc := ⟨.hbm, 52, rfl⟩
abbrev main_v28 : Ref sig .tc := ⟨.hbm, 53, rfl⟩
abbrev main_v29 : Ref sig .tc := ⟨.hbm, 54, rfl⟩
abbrev main_cst_7 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_8 : Ref sig .tc := ⟨.hbm, 61, rfl⟩
abbrev main_cst_9 : Ref sig .tc := ⟨.hbm, 62, rfl⟩
abbrev main_call4_v0 : Ref sig .tc := ⟨.hbm, 63, rfl⟩
abbrev main_call4_v1 : Ref sig .tc := ⟨.hbm, 64, rfl⟩
abbrev main_call4_v2 : Ref sig .tc := ⟨.hbm, 65, rfl⟩
abbrev main_call4_v3 : Ref sig .tc := ⟨.hbm, 66, rfl⟩
abbrev main_call4_v4 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_call5_v0 : Ref sig .tc := ⟨.hbm, 79, rfl⟩
abbrev main_call5_cst : Ref sig .tc := ⟨.hbm, 80, rfl⟩
abbrev main_call5_v1 : Ref sig .tc := ⟨.hbm, 81, rfl⟩
abbrev main_call5_v2 : Ref sig .tc := ⟨.hbm, 82, rfl⟩
abbrev main_v46 : Ref sig .tc := ⟨.hbm, 83, rfl⟩
abbrev main_cst_10 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩

abbrev nD : Nat := 1
abbrev τ : Topo := Topo.v5e

variable {F : FTy → Type} [FloatOps F]
-- ==== Proof.Spec.lean ====
/-
  The mathematics of a two-layer graph convolution, over tables of extended reals: products of tables, the row
  normalisation, the two layers as the reference states them, and the eight-bit quantisation of the second
  aggregation.  Nothing here mentions a program.
-/
module

public import Idealize.ShloMosaic.PureOps.Ideal
public import Idealize.ShloMosaic.Lib.Pointwise

@[expose] public section

noncomputable section

namespace Cert.Layers

open Idealize.ShloMosaic

/-- A table of `n` rows and `d` columns. -/
abbrev Tab (n d : ℕ) := Fin n → Fin d → EReal

/-- An array of rank two, over its index type. -/
abbrev Arr (α : Type) (n d : ℕ) := (⟨2, ![n, d]⟩ : Shape).Idx → α

/-- The table an array holds. -/
def tab {α : Type} {n d : ℕ} (X : Arr α n d) : Fin n → Fin d → α := fun r c => X (ix2 r c)

/-- The array that holds a table. -/
def arr {α : Type} {n d : ℕ} (f : Fin n → Fin d → α) : Arr α n d := fun i => f (i 0) (i 1)

@[simp] theorem tab_arr {α : Type} {n d : ℕ} (f : Fin n → Fin d → α) : tab (arr f) = f := rfl

/-- The only row of an array of one row. -/
def row {α : Type} {d : ℕ} (X : Arr α 1 d) : Fin d → α := fun c => X (ix2 0 c)

/-- The first 128 of 256 columns. -/
def lo {n : ℕ} (W : Tab n 256) : Tab n 128 := fun r k => W r ⟨k.val, by omega⟩

/-- The last 128 of 256 columns. -/
def hi {n : ℕ} (W : Tab n 256) : Tab n 128 := fun r k => W r ⟨128 + k.val, by omega⟩

/-- The product of two tables. -/
def mul {n m d : ℕ} (A : Tab n m) (B : Tab m d) : Tab n d := fun i p => ∑ j, A i j * B j p

/-- The product of a table with the transpose of another: rows against rows. -/
def mulT {n k p : ℕ} (A : Tab n k) (B : Tab p k) : Tab n p := fun i q => ∑ j, A i j * B q j

/-- The single-precision constants: 127, one half, −128, −127, 1e-12, 1e-30 and −∞. -/
abbrev c127 : EReal := Ideal.ofBits .f32 0x42FE0000#32
@[inherit_doc c127] abbrev cHalf : EReal := Ideal.ofBits .f32 0x3F000000#32
@[inherit_doc c127] abbrev cNeg128 : EReal := Ideal.ofBits .f32 0xC3000000#32
@[inherit_doc c127] abbrev cNeg127 : EReal := Ideal.ofBits .f32 0xC2FE0000#32
@[inherit_doc c127] abbrev cEps : EReal := Ideal.ofBits .f32 0x2B8CBCCC#32
@[inherit_doc c127] abbrev cTiny : EReal := Ideal.ofBits .f32 0x0DA24260#32
@[inherit_doc c127] abbrev cBot : EReal := Ideal.ofBits .f32 0xFF800000#32

/-- Rows divided by their length, a length below 1e-12 counting as 1e-12. -/
def unit {n d : ℕ} (v : Tab n d) : Tab n d := fun i p =>
  Ideal.div (v i p) (max (Ideal.sqrt (∑ q, v i q * v i q)) cEps)

/-- Negative entries replaced by zero. -/
def relu {n d : ℕ} (v : Tab n d) : Tab n d := fun i p => max (v i p) 0

/-- The largest magnitude in each column, at least 1e-30. -/
def peak {n d : ℕ} (y : Tab n d) (p : Fin d) : EReal :=
  max (Finset.univ.fold max cBot fun i => max (y i p) (-(y i p))) cTiny

/-! ## The reference: two layers, the second one's aggregation in eight bits -/

/-- The first layer: own features against the first half of the weights, the neighbours' sum against the second
    half, the bias, the row normalisation and the cut at zero. -/
def hidden {n : ℕ} (x : Tab n 128) (adj : Tab n n) (W : Tab 128 256) (b : Fin 128 → EReal) : Tab n 128 :=
  relu (unit fun i p => (mulT x (lo W) i p + mulT (mul adj x) (hi W) i p) + b p)

/-- The eight-bit code of an entry of the adjacency matrix: 127 times it, plus one half, between −128 and 127,
    cut to an integer. -/
def adjCode (a : EReal) : ℤ := (Ideal.fptosi 32 (min c127 (max cNeg128 (a * c127 + cHalf)))).toInt

/-- What the code stands for: the code over 127. -/
def adj8 (a : EReal) : EReal := Ideal.div ((adjCode a : ℝ) : EReal) c127

/-- The step of a column's quantisation: its peak over 127. -/
def step {n d : ℕ} (y : Tab n d) (p : Fin d) : EReal := Ideal.div (peak y p) c127

/-- The code of an entry of the second layer's messages: how many of its column's steps it is, rounded to an integer,
    ties to even, and at most 127 away from zero. -/
def msgCode {n d : ℕ} (y : Tab n d) : Tab n d := fun j p =>
  min c127 (max cNeg127 (Ideal.liftRound Ideal.roundHalfEven (Ideal.div (y j p) (step y p))))

/-- An entry of the second layer's messages in eight bits: the code times the step. -/
def msg8 {n d : ℕ} (y : Tab n d) : Tab n d := fun j p => msgCode y j p * step y p

/-- The second layer from the first one's result. -/
def output {n : ℕ} (h : Tab n 128) (adj : Tab n n) (W : Tab 128 256) (b : Fin 128 → EReal) : Tab n 128 :=
  unit fun i p => (mulT h (lo W) i p + mul (fun r j => adj8 (adj r j)) (msg8 (mulT h (hi W))) i p) + b p

/-! ## The kernel's arrangement: the weights are applied before the neighbours are summed, and the second sum is an
    integer one over eight-bit words -/

/-- The first layer from the projected messages `y` and own terms `s`. -/
def hiddenOf {n m : ℕ} (adj : Tab n m) (y : Tab m 128) (s : Tab n 128) : Tab n 128 :=
  relu (unit fun i p => mul adj y i p + s i p)

/-- The eight-bit word stored for an entry of the adjacency matrix. -/
def adjWord (a : EReal) : BitVec 8 := Ideal.fptosi 8 (min (a * c127 + cHalf) c127)

/-- The eight-bit words stored for the second layer's messages. -/
def msgWord {n d : ℕ} (y : Tab n d) : Fin n → Fin d → BitVec 8 := fun j p =>
  Ideal.fptosi 8 (min c127 (max cNeg127 (Ideal.liftRound Ideal.roundHalfEven (y j p * Ideal.div c127 (peak y p)))))

/-- What one unit of the integer sum is worth in each column: the peak over 127². -/
def scale {n d : ℕ} (y : Tab n d) (p : Fin d) : EReal := peak y p * ((16129⁻¹ : ℝ) : EReal)

/-- The integer product of two tables of eight-bit words. -/
def intMul {n m d : ℕ} (A : Fin n → Fin m → BitVec 8) (B : Fin m → Fin d → BitVec 8) (i : Fin n) (p : Fin d) : ℤ :=
  ∑ j, (A i j).toInt * (B j p).toInt

/-- The total magnitude of the products `intMul` adds. -/
def absMul {n m d : ℕ} (A : Fin n → Fin m → BitVec 8) (B : Fin m → Fin d → BitVec 8) (i : Fin n) (p : Fin d) : ℕ :=
  ∑ j, ((A i j).toInt * (B j p).toInt).natAbs

/-- The second layer from the words, the columns' scales and the own terms. -/
def outputOf {n m d : ℕ} (A : Fin n → Fin m → BitVec 8) (B : Fin m → Fin d → BitVec 8) (sc : Fin d → EReal)
    (s : Tab n d) : Tab n d :=
  unit fun i p => ((intMul A B i p : ℝ) : EReal) * sc p + s i p

/-- The kernel's first layer from its arguments. -/
def kernelHidden {n : ℕ} (x : Tab n 128) (adj : Tab n n) (W : Tab 128 256) (b : Fin 128 → EReal) : Tab n 128 :=
  hiddenOf adj (mulT x (hi W)) (fun i p => mulT x (lo W) i p + b p)

/-- The kernel's second layer from the first one's result. -/
def kernelOutput {n : ℕ} (h : Tab n 128) (adj : Tab n n) (W : Tab 128 256) (b : Fin 128 → EReal) : Tab n 128 :=
  outputOf (fun i j => adjWord (adj i j)) (msgWord (mulT h (hi W))) (scale (mulT h (hi W)))
    (fun i p => mulT h (lo W) i p + b p)

end Cert.Layers

end
-- ==== Proof.Halves.lean ====
/-
  The two halves of a table of 256 columns, as a body loads them: the first and the last 128 columns.
-/
module

public import proofs.«01_k».proof.Proof.Spec
public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Halves

open Idealize.ShloMosaic Idealize.ShloMosaic.TcCoe
open Cert.KernelIdeal Cert.KernelIdeal.Gen Cert.Layers

variable (V : (c : Dev nD) → (b : Ref sig .tc) → Buf (Elt Ideal) ((c : Thread nD τ).loc b)) (c : Dev nD)

/-- The last 128 columns. -/
theorem ld_hi (X : Vec Ideal S128x256 .f32) :
    tab (View.ld X (Rect.unit (s := S128x256) ![0, 128] S128x128.size inb_S128x256_S128x128_0_128) : Arr EReal 128 128) = hi (tab X) := by
  funext r k
  exact View.ld_unit_apply_of X _ _ _ (ix2 r k) (ix2 r ⟨128 + k.val, by omega⟩) fun a => match a with
    | ⟨0, _⟩ => (Nat.zero_add _).symm
    | ⟨1, _⟩ => rfl

/-- The first 128 columns. -/
theorem ld_lo (X : Vec Ideal S128x256 .f32) :
    tab (View.ld X (Rect.unit (s := S128x256) ![0, 0] S128x128.size inb_S128x256_S128x128_0_0) : Arr EReal 128 128) = lo (tab X) := by
  funext r k
  exact View.ld_unit_apply_of X _ _ _ (ix2 r k) (ix2 r ⟨k.val, by omega⟩) fun a => match a with
    | ⟨0, _⟩ => (Nat.zero_add _).symm
    | ⟨1, _⟩ => (Nat.zero_add _).symm

end Cert.KernelIdeal.Halves

end
-- ==== Proof.Region0.lean ====
/-
  The first launch: each of ten points takes a thousand rows of the features and leaves their products with the two
  halves of the first layer's weights.  Here: what the two result arrays hold afterwards.
-/
module

public import proofs.«01_k».proof.Proof.Spec
public import proofs.«01_k».proof.Proof.Gen.KernelIdeal.Frame
public import Idealize.ShloMosaic.Lib.Pipeline.ValueKit
public import Idealize.ShloMosaic.Lib.Pointwise
public import proofs.«01_k».proof.Proof.Halves

@[expose] public section

set_option maxRecDepth 16384

noncomputable section

namespace Cert.KernelIdeal.First

open Idealize.ShloMosaic Idealize.ShloMosaic.TcCoe
open Cert.KernelIdeal Cert.KernelIdeal.Gen Cert.Layers

variable (V : (c : Dev nD) → (b : Ref sig .tc) → Buf (Elt Ideal) ((c : Thread nD τ).loc b)) (c : Dev nD)

/-- The block each window is on at a point: the point's own rows, or the whole array. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] := by decide +kernel

/-- The row of the array that row `r` of point `t`'s block is. -/
abbrev at_ (t : Fin cfg0.N) (r : Fin 1000) : Fin 10000 :=
  ⟨t.val * 1000 + r.val, by have h : t.val < 10 := t.isLt; omega⟩

/-- A block's products with a half of the weights, row against row. -/
theorem pay2 (v0 : Vec Ideal S1000x128 .f32) (v1 : Vec Ideal S128x128 .f32) (r : Fin 1000) (p : Fin 128) :
    k0_pay2 (F := Ideal) v0 v1 (ix2 r p) = mulT (tab v0) (tab v1) r p := by
  pointwise [k0_pay2]
  rfl

/-- The same with the bias added. -/
theorem pay1 (v0 : Vec Ideal S1000x128 .f32) (v1 : Vec Ideal S128x128 .f32) (v4 : Vec Ideal S1x128 .f32)
    (r : Fin 1000) (p : Fin 128) :
    k0_pay1 (F := Ideal) v0 v1 v4 (ix2 r p) = mulT (tab v0) (tab v1) r p + row v4 p := by
  pointwise [k0_pay1]
  rfl

/-- Point `t`'s block of features is a thousand rows of the array. -/
theorem blk_x (t : Fin cfg0.N) :
    tab (iblk0 V c 0 t : Arr EReal 1000 128) = fun r => tab (V c main_arg0 : Arr EReal 10000 128) (at_ t r) := by
  funext r k; unfold tab; blk_ext [iblk0, idx t]

/-- The weights, whole at every point. -/
theorem blk_w (t : Fin cfg0.N) :
    tab (iblk0 V c 1 t : Arr EReal 128 256) = tab (V c main_arg2 : Arr EReal 128 256) := by
  funext r k; unfold tab; blk_ext [iblk0, idx t]

/-- The bias, as a point reads it. -/
theorem blk_b (t : Fin cfg0.N) : row (iblk0 V c 2 t : Arr EReal 1 128) = row (V c main_v0 : Arr EReal 1 128) := by
  funext k; unfold row; blk_ext [iblk0, idx t]

/-- The first result: the features' products with the second half of the weights. -/
theorem y_eq : (dat0 V c).arrAt 3 cfg0.N
    = arr (mulT (tab (V c main_arg0 : Arr EReal 10000 128)) (hi (tab (V c main_arg2 : Arr EReal 128 256)))) := by
  refine (dat0 V c).arrAt_eq_of_covers 3 _ (by decide +kernel) fun t hf y => ?_
  blk_simp
  rw [after0_3]
  frame_out
  idx_vars y
  have he : ((View.whole main_v2_0).slice (win0_3.rect t)).emb (ix2 y0 y1) = ix2 (at_ t y0) y1 := by blk_ext [idx t]
  rw [pay2, he, blk_x, Halves.ld_hi, blk_w]
  rfl

/-- The second result: the features' products with the first half of the weights, and the bias. -/
theorem s_eq : (dat0 V c).arrAt 4 cfg0.N
    = arr (fun i p => mulT (tab (V c main_arg0 : Arr EReal 10000 128)) (lo (tab (V c main_arg2 : Arr EReal 128 256))) i p
        + row (V c main_v0 : Arr EReal 1 128) p) := by
  refine (dat0 V c).arrAt_eq_of_covers 4 _ (by decide +kernel) fun t hf y => ?_
  blk_simp
  rw [after0_4]
  frame_out
  idx_vars y
  have he : ((View.whole main_v2_1).slice (win0_4.rect t)).emb (ix2 y0 y1) = ix2 (at_ t y0) y1 := by blk_ext [idx t]
  rw [pay1, he, blk_x, Halves.ld_lo, blk_w, blk_b]
  rfl

end Cert.KernelIdeal.First

end
-- ==== Proof.Region1.lean ====
/-
  The second launch: each of twenty-five points takes four hundred rows of the adjacency matrix, finishes the first
  layer on them, multiplies the result with the two halves of the second layer's weights, and stores the rows of the
  matrix in eight bits.  Here: what the three result arrays hold afterwards.
-/
module

public import proofs.«01_k».proof.Proof.Spec
public import proofs.«01_k».proof.Proof.Gen.KernelIdeal.Frame
public import Idealize.ShloMosaic.Lib.Pipeline.ValueKit
public import Idealize.ShloMosaic.Lib.Pointwise
public import proofs.«01_k».proof.Proof.Halves

@[expose] public section

set_option maxRecDepth 16384

noncomputable section

namespace Cert.KernelIdeal.Second

open Idealize.ShloMosaic Idealize.ShloMosaic.TcCoe
open Cert.KernelIdeal Cert.KernelIdeal.Gen Cert.Layers

variable (V : (c : Dev nD) → (b : Ref sig .tc) → Buf (Elt Ideal) ((c : Thread nD τ).loc b)) (c : Dev nD)

/-- The block each window is on at a point: the point's own rows, or the whole array. -/
theorem idx : ∀ t : Fin cfg1.N, win1_0.index t = ![t.val, 0] ∧ win1_1.index t = ![0, 0] ∧ win1_2.index t = ![t.val, 0]
    ∧ win1_3.index t = ![0, 0] ∧ win1_4.index t = ![0, 0] ∧ win1_5.index t = ![t.val, 0] ∧ win1_6.index t = ![t.val, 0]
    ∧ win1_7.index t = ![t.val, 0] := by decide +kernel

/-- The row of the array that row `r` of point `t`'s block is. -/
abbrev at_ (t : Fin cfg1.N) (r : Fin 400) : Fin 10000 :=
  ⟨t.val * 400 + r.val, by have h : t.val < 25 := t.isLt; omega⟩

/-- The first layer on a block of rows. -/
theorem pay2 (v0 : Vec Ideal S400x10000 .f32) (v1 : Vec Ideal S10000x128 .f32) (v4 : Vec Ideal S400x128 .f32)
    (r : Fin 400) (p : Fin 128) :
    k1_pay2 (F := Ideal) v0 v1 v4 (ix2 r p) = hiddenOf (tab v0) (tab v1) (tab v4) r p := by
  pointwise [k1_pay2]
  rfl

/-- The block's second-layer messages: its rows against the rows of a half of the weights. -/
theorem pay4 (v0 : Vec Ideal S400x10000 .f32) (v1 : Vec Ideal S10000x128 .f32) (v4 : Vec Ideal S400x128 .f32)
    (w : Vec Ideal S128x128 .f32) (r : Fin 400) (p : Fin 128) :
    k1_pay4 (F := Ideal) v0 v1 v4 w (ix2 r p) = mulT (hiddenOf (tab v0) (tab v1) (tab v4)) (tab w) r p := by
  pointwise [k1_pay4]
  simp only [pay2]
  rfl

/-- The block's own second-layer terms: its rows against the other half, and the bias. -/
theorem pay3 (v0 : Vec Ideal S400x10000 .f32) (v1 : Vec Ideal S10000x128 .f32) (v4 : Vec Ideal S400x128 .f32)
    (w : Vec Ideal S128x128 .f32) (b : Vec Ideal S1x128 .f32) (r : Fin 400) (p : Fin 128) :
    k1_pay3 (F := Ideal) v0 v1 v4 w b (ix2 r p) = mulT (hiddenOf (tab v0) (tab v1) (tab v4)) (tab w) r p + row b p := by
  pointwise [k1_pay3]
  simp only [pay2]
  rfl

/-- The block of the adjacency matrix in eight-bit words. -/
theorem pay1 (v0 : Vec Ideal S400x10000 .f32) (r : Fin 400) (j : Fin 10000) :
    k1_pay1 (k1_pay5 (F := Ideal) v0) (k1_pay6 (F := Ideal)) (ix2 r j) = adjWord (tab v0 r j) := by
  pointwise [k1_pay1, k1_pay5, k1_pay6]
  rfl

/-- Point `t`'s block of the adjacency matrix. -/
theorem blk_adj (t : Fin cfg1.N) :
    tab (iblk1 V c 0 t : Arr EReal 400 10000) = fun r => tab (V c main_arg1 : Arr EReal 10000 10000) (at_ t r) := by
  funext r k; unfold tab; blk_ext [iblk1, idx t]

/-- The projected messages of the first layer, whole at every point. -/
theorem blk_y (t : Fin cfg1.N) :
    tab (iblk1 V c 1 t : Arr EReal 10000 128) = tab (V c main_v2_0 : Arr EReal 10000 128) := by
  funext r k; unfold tab; blk_ext [iblk1, idx t]

/-- Point `t`'s block of the first layer's own terms. -/
theorem blk_s (t : Fin cfg1.N) :
    tab (iblk1 V c 2 t : Arr EReal 400 128) = fun r => tab (V c main_v2_1 : Arr EReal 10000 128) (at_ t r) := by
  funext r k; unfold tab; blk_ext [iblk1, idx t]

/-- The second layer's weights, whole at every point. -/
theorem blk_w (t : Fin cfg1.N) :
    tab (iblk1 V c 3 t : Arr EReal 128 256) = tab (V c main_arg4 : Arr EReal 128 256) := by
  funext r k; unfold tab; blk_ext [iblk1, idx t]

/-- The second layer's bias, as a point reads it. -/
theorem blk_b (t : Fin cfg1.N) : row (iblk1 V c 4 t : Arr EReal 1 128) = row (V c main_v1 : Arr EReal 1 128) := by
  funext k; unfold row; blk_ext [iblk1, idx t]

/-- The first layer's result, from the arrays the launch is entered with. -/
abbrev hid : Tab 10000 128 :=
  hiddenOf (tab (V c main_arg1 : Arr EReal 10000 10000)) (tab (V c main_v2_0 : Arr EReal 10000 128))
    (tab (V c main_v2_1 : Arr EReal 10000 128))

/-- The first result: the second layer's messages. -/
theorem y_eq : (dat1 V c).arrAt 5 cfg1.N
    = arr (mulT (hid V c) (hi (tab (V c main_arg4 : Arr EReal 128 256)))) := by
  refine (dat1 V c).arrAt_eq_of_covers 5 _ (by decide +kernel) fun t hf y => ?_
  blk_simp
  rw [after1_5]
  frame_out
  idx_vars y
  have he : ((View.whole main_v3_0).slice (win1_5.rect t)).emb (ix2 y0 y1) = ix2 (at_ t y0) y1 := by blk_ext [idx t]
  rw [pay4, he, blk_adj, blk_y, blk_s, Halves.ld_hi, blk_w]
  rfl

/-- The second result: the second layer's own terms. -/
theorem s_eq : (dat1 V c).arrAt 6 cfg1.N
    = arr (fun i p => mulT (hid V c) (lo (tab (V c main_arg4 : Arr EReal 128 256))) i p + row (V c main_v1 : Arr EReal 1 128) p) := by
  refine (dat1 V c).arrAt_eq_of_covers 6 _ (by decide +kernel) fun t hf y => ?_
  blk_simp
  rw [after1_6]
  frame_out
  idx_vars y
  have he : ((View.whole main_v3_1).slice (win1_6.rect t)).emb (ix2 y0 y1) = ix2 (at_ t y0) y1 := by blk_ext [idx t]
  rw [pay3, he, blk_adj, blk_y, blk_s, Halves.ld_lo, blk_w, blk_b]
  rfl

/-- The third result: the adjacency matrix in eight-bit words. -/
theorem q_eq : (dat1 V c).arrAt 7 cfg1.N
    = arr (fun i j => adjWord (tab (V c main_arg1 : Arr EReal 10000 10000) i j)) := by
  refine (dat1 V c).arrAt_eq_of_covers 7 _ (by decide +kernel) fun t hf y => ?_
  blk_simp
  rw [after1_7]
  frame_out
  idx_vars y
  have he : ((View.whole main_v3_2).slice (win1_7.rect t)).emb (ix2 y0 y1) = ix2 (at_ t y0) y1 := by blk_ext [idx t]
  rw [pay1, he, blk_adj]
  rfl

end Cert.KernelIdeal.Second

end
-- ==== Proof.Region2.lean ====
/-
  The third launch, one point: the second layer's messages are rounded to eight-bit words, a step per column.  Here:
  what its two result arrays hold afterwards.
-/
module

public import proofs.«01_k».proof.Proof.Spec
public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Third

open Idealize.ShloMosaic Idealize.ShloMosaic.TcCoe
open Cert.KernelIdeal Cert.KernelIdeal.Gen Cert.Layers

variable (V : (c : Dev nD) → (b : Ref sig .tc) → Buf (Elt Ideal) ((c : Thread nD τ).loc b)) (c : Dev nD)

/-- Every window is on its whole array. -/
theorem idx : ∀ t : Fin cfg2.N, win2_0.index t = ![0, 0] ∧ win2_1.index t = ![0, 0] ∧ win2_2.index t = ![0, 0] := by
  decide +kernel

/-- The columns' scales. -/
theorem pay4 (v0 : Vec Ideal S10000x128 .f32) (r : Fin 1) (p : Fin 128) :
    k2_pay4 (F := Ideal) v0 (ix2 r p) = scale (tab v0) p := by
  pointwise [k2_pay4, k2_pay2, k2_pay1]
  rfl

/-- The messages' words. -/
theorem pay3 (v0 : Vec Ideal S10000x128 .f32) (r : Fin 10000) (p : Fin 128) :
    k2_pay3 (F := Ideal) v0 (ix2 r p) = msgWord (tab v0) r p := by
  pointwise [k2_pay3, k2_pay2, k2_pay1]
  rfl

/-- The messages, as the point reads them. -/
theorem blk_y (t : Fin cfg2.N) :
    tab (iblk2 V c 0 t : Arr EReal 10000 128) = tab (V c main_v3_0 : Arr EReal 10000 128) := by
  funext r k; unfold tab; blk_ext [iblk2, idx t]

/-- The first result: the words. -/
theorem q_eq : (dat2 V c).arrAt 1 cfg2.N = arr (msgWord (tab (V c main_v3_0 : Arr EReal 10000 128))) := by
  refine (dat2 V c).arrAt_eq_of_covers 1 _ (by decide +kernel) fun t hf y => ?_
  blk_simp
  rw [after2_1]
  frame_out
  idx_vars y
  have he : ((View.whole main_v4_0).slice (win2_1.rect t)).emb (ix2 y0 y1) = ix2 y0 y1 := by blk_ext [idx t]
  rw [pay3, he, blk_y]
  rfl

/-- The second result: the scales. -/
theorem sc_eq : (dat2 V c).arrAt 2 cfg2.N
    = arr (fun (_ : Fin 1) p => scale (tab (V c main_v3_0 : Arr EReal 10000 128)) p) := by
  refine (dat2 V c).arrAt_eq_of_covers 2 _ (by decide +kernel) fun t hf y => ?_
  blk_simp
  rw [after2_2]
  frame_out
  idx_vars y
  have he : ((View.whole main_v4_1).slice (win2_2.rect t)).emb (ix2 y0 y1) = ix2 y0 y1 := by blk_ext [idx t]
  rw [pay4, he, blk_y]
  rfl

end Cert.KernelIdeal.Third

end
-- ==== Proof.IntDot.lean ====
/-
  The integer product of two blocks of eight-bit words: the sum of the words' products over the contracted axis, as
  long as the products' magnitudes total at most 2²⁶.
-/
module

public import proofs.«01_k».proof.Proof.Spec
public import proofs.«01_k».proof.Proof.Gen.KernelIdeal.Frame
public import Idealize.ShloMosaic.Lib.Pipeline.ValueKit
public import Idealize.ShloMosaic.Lib.Pointwise
public import Idealize.ShloMosaic.Lib.IntMxu

@[expose] public section

set_option maxRecDepth 16384

noncomputable section

namespace Cert.KernelIdeal.IntDot

open Idealize.ShloMosaic Idealize.ShloMosaic.TcCoe
open Cert.KernelIdeal Cert.KernelIdeal.Gen Cert.Layers

variable (V : (c : Dev nD) → (b : Ref sig .tc) → Buf (Elt Ideal) ((c : Thread nD τ).loc b)) (c : Dev nD)

/-- The dimension numbers of the second aggregation: a block's rows against the columns. -/
abbrev dims := dot_S400x10000_S10000x128_S400x128_1_0_0_1_n_n

/-- A sum over the contracted axis, by position. -/
theorem sum_contr {M : Type} [AddCommMonoid M] (f : BitVec 8 → BitVec 8 → M) (a : IVec S400x10000 8) (b : IVec S10000x128 8)
    (r : Fin 400) (p : Fin 128) :
    ∑ k : dims.contr.Idx, f (a (dims.lhsIdx (ix2 r p) k)) (b (dims.rhsIdx (ix2 r p) k))
      = ∑ j : Fin 10000, f (tab a r j) (tab b j p) := by
  rw [← Equiv.sum_comp (ValueIdx.contrEquiv1 dims 10000 rfl rfl).symm]
  refine Finset.sum_congr rfl fun j _ => ?_
  have hk := ValueIdx.contrEquiv1_symm_val dims 10000 rfl rfl j
  have hl : dims.lhsIdx (ix2 r p) ((ValueIdx.contrEquiv1 dims 10000 rfl rfl).symm j) = ix2 r j := by
    funext a; apply Fin.ext
    match a with
    | ⟨0, _⟩ => rfl
    | ⟨1, _⟩ => exact hk
  have hr : dims.rhsIdx (ix2 r p) ((ValueIdx.contrEquiv1 dims 10000 rfl rfl).symm j) = ix2 j p := by
    funext a; apply Fin.ext
    match a with
    | ⟨0, _⟩ => exact hk
    | ⟨1, _⟩ => rfl
  rw [hl, hr]
  rfl

/-- Within the bound, the word of the block product read back as an integer is the sum of the products. -/
theorem toInt_eq (a : IVec S400x10000 8) (b : IVec S10000x128 8) (r : Fin 400) (p : Fin 128)
    (h : absMul (tab a) (tab b) r p ≤ 2 ^ 26) :
    (matmulI8 IntMxuNumerics.v5e dims a b (constantI S400x128 32 0#32) (ix2 r p)).toInt = intMul (tab a) (tab b) r p := by
  rw [matmulI8_toInt _ _ _ _ _ _ rfl]
  · exact sum_contr (fun u v => u.toInt * v.toInt) a b r p
  · have := sum_contr (fun u v => (u.toInt * v.toInt).natAbs) a b r p
    unfold absDotI8
    rw [this]
    exact h

end Cert.KernelIdeal.IntDot

end
-- ==== Proof.Region3.lean ====
/-
  The fourth launch: each of twenty-five points multiplies four hundred rows of eight-bit words with the messages'
  words, rescales the integer sums, adds the own terms and normalises the rows.  Here: what the result array holds
  afterwards, as long as the integer products stay within 2²⁶ in total.
-/
module

public import proofs.«01_k».proof.Proof.Spec
public import proofs.«01_k».proof.Proof.Gen.KernelIdeal.Frame
public import Idealize.ShloMosaic.Lib.Pipeline.ValueKit
public import Idealize.ShloMosaic.Lib.Pointwise
public import proofs.«01_k».proof.Proof.IntDot

@[expose] public section

set_option maxRecDepth 16384

noncomputable section

namespace Cert.KernelIdeal.Fourth

open Idealize.ShloMosaic Idealize.ShloMosaic.TcCoe
open Cert.KernelIdeal Cert.KernelIdeal.Gen Cert.Layers

variable (V : (c : Dev nD) → (b : Ref sig .tc) → Buf (Elt Ideal) ((c : Thread nD τ).loc b)) (c : Dev nD)

/-- The block each window is on at a point: the point's own rows, or the whole array. -/
theorem idx : ∀ t : Fin cfg3.N, win3_0.index t = ![t.val, 0] ∧ win3_1.index t = ![0, 0] ∧ win3_2.index t = ![0, 0]
    ∧ win3_3.index t = ![t.val, 0] ∧ win3_4.index t = ![t.val, 0] := by decide +kernel

/-- The row of the array that row `r` of point `t`'s block is. -/
abbrev at_ (t : Fin cfg3.N) (r : Fin 400) : Fin 10000 :=
  ⟨t.val * 400 + r.val, by have h : t.val < 25 := t.isLt; omega⟩

/-- A word as a real number is the integer it stands for. -/
theorem sitofp_eq (b : BitVec 32) : FloatOps.sitofp (F := Ideal) .f32 b = ((b.toInt : ℝ) : EReal) := rfl

/-- The second layer on a block of rows whose integer products stay within the bound. -/
theorem pay1 (v0 : IVec S400x10000 8) (v2 : IVec S10000x128 8) (v6 : Vec Ideal S1x128 .f32) (v10 : Vec Ideal S400x128 .f32)
    (h : ∀ r p, absMul (tab v0) (tab v2) r p ≤ 2 ^ 26) (r : Fin 400) (p : Fin 128) :
    k3_pay1 (F := Ideal) v0 v2 v6 v10 (ix2 r p) = outputOf (tab v0) (tab v2) (row v6) (tab v10) r p := by
  pointwise [k3_pay1]
  simp only [sitofp_eq, IntDot.toInt_eq _ _ _ _ (h _ _)]
  rfl

/-- Point `t`'s block of the matrix's words. -/
theorem blk_a (t : Fin cfg3.N) :
    tab (iblk3 V c 0 t : Arr (BitVec 8) 400 10000) = fun r => tab (V c main_v3_2 : Arr (BitVec 8) 10000 10000) (at_ t r) := by
  funext r k; unfold tab; blk_ext [iblk3, idx t]

/-- The messages' words, whole at every point. -/
theorem blk_q (t : Fin cfg3.N) :
    tab (iblk3 V c 1 t : Arr (BitVec 8) 10000 128) = tab (V c main_v4_0 : Arr (BitVec 8) 10000 128) := by
  funext r k; unfold tab; blk_ext [iblk3, idx t]

/-- The scales, as a point reads them. -/
theorem blk_sc (t : Fin cfg3.N) : row (iblk3 V c 2 t : Arr EReal 1 128) = row (V c main_v4_1 : Arr EReal 1 128) := by
  funext k; unfold row; blk_ext [iblk3, idx t]

/-- Point `t`'s block of the own terms. -/
theorem blk_s (t : Fin cfg3.N) :
    tab (iblk3 V c 3 t : Arr EReal 400 128) = fun r => tab (V c main_v3_1 : Arr EReal 10000 128) (at_ t r) := by
  funext r k; unfold tab; blk_ext [iblk3, idx t]

/-- The result: the second layer, from the arrays the launch is entered with. -/
theorem h_eq (h : ∀ i p, absMul (tab (V c main_v3_2 : Arr (BitVec 8) 10000 10000))
      (tab (V c main_v4_0 : Arr (BitVec 8) 10000 128)) i p ≤ 2 ^ 26) :
    (dat3 V c).arrAt 4 cfg3.N
    = arr (outputOf (tab (V c main_v3_2 : Arr (BitVec 8) 10000 10000)) (tab (V c main_v4_0 : Arr (BitVec 8) 10000 128))
        (row (V c main_v4_1 : Arr EReal 1 128)) (tab (V c main_v3_1 : Arr EReal 10000 128))) := by
  refine (dat3 V c).arrAt_eq_of_covers 4 _ (by decide +kernel) fun t hf y => ?_
  blk_simp
  rw [after3_4]
  frame_out
  idx_vars y
  have he : ((View.whole main_v5).slice (win3_4.rect t)).emb (ix2 y0 y1) = ix2 (at_ t y0) y1 := by blk_ext [idx t]
  rw [pay1 _ _ _ _ (fun r p => by rw [blk_a, blk_q]; exact h (at_ t r) p), he, blk_a, blk_q, blk_sc, blk_s]
  rfl

end Cert.KernelIdeal.Fourth

end
-- ==== Proof.KernelRun.lean ====
/-
  The whole kernel: what the result array holds after the four launches, as the mathematics of the arguments, and the
  run that ends there.
-/
module

public import proofs.«01_k».proof.Proof.Region0
public import proofs.«01_k».proof.Proof.Region1
public import proofs.«01_k».proof.Proof.Region2
public import proofs.«01_k».proof.Proof.Region3
public import Idealize.ShloMosaic.Lib.Claim

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Layers

local notation "𝕄" => MT nD τ sig Unit (Elt Ideal) ℕ (UR sig nD τ) ℕ

variable (m : (ℓ : Loc nD τ sig) → Buf (Elt Ideal) ℓ) (ρ : Dev nD → PrngReg) (c : Dev nD)

/-! ## The arguments -/

/-- The features, the adjacency matrix, the two layers' weights and their biases, as the launch finds them. -/
abbrev x : Tab 10000 128 := tab (m ((c.tc : Thread nD τ).loc main_arg0) : Arr EReal 10000 128)
abbrev adj : Tab 10000 10000 := tab (m ((c.tc : Thread nD τ).loc main_arg1) : Arr EReal 10000 10000)
abbrev W₁ : Tab 128 256 := tab (m ((c.tc : Thread nD τ).loc main_arg2) : Arr EReal 128 256)
abbrev W₂ : Tab 128 256 := tab (m ((c.tc : Thread nD τ).loc main_arg4) : Arr EReal 128 256)
abbrev b₁ : Fin 128 → EReal := fun p => (m ((c.tc : Thread nD τ).loc main_arg3) : Vec Ideal S128 .f32) (ix1 p)
abbrev b₂ : Fin 128 → EReal := fun p => (m ((c.tc : Thread nD τ).loc main_arg5) : Vec Ideal S128 .f32) (ix1 p)

/-- The first layer, as the kernel arranges it. -/
abbrev hid : Tab 10000 128 := kernelHidden (x m c) (adj m c) (W₁ m c) (b₁ m c)

/-! ## The reshaped biases -/

/-- The first bias, as the launches read it. -/
theorem bias₁ : row (V1 m ρ c main_v0 : Arr EReal 1 128) = b₁ m c := by
  funext p
  show (V1 m ρ c main_v0 : Arr EReal 1 128) (ix2 0 p) = _
  unfold V1 W1
  entry_read
  pointwise

/-- The second bias, when the first launch starts. -/
theorem bias₂ : row (V1 m ρ c main_v1 : Arr EReal 1 128) = b₂ m c := by
  funext p
  show (V1 m ρ c main_v1 : Arr EReal 1 128) (ix2 0 p) = _
  unfold V1 W1
  entry_read
  pointwise

/-- The second bias, as the second launch reads it. -/
theorem bias₂' : row (V2 m ρ c main_v1 : Arr EReal 1 128) = b₂ m c := by
  rw [← bias₂ m ρ c]
  exact congrArg row (W2_of m ρ c main_v1 (by decide))

/-! ## What each launch leaves -/

/-- After the first launch: the messages' terms and the own terms of the first layer. -/
theorem first_y : (V2 m ρ c main_v2_0 : Arr EReal 10000 128) = arr (mulT (x m c) (hi (W₁ m c))) := by
  have h := (W2_arr m ρ c 3).trans (First.y_eq (V1 m ρ) c)
  rw [show V1 m ρ c main_arg0 = m ((c.tc : Thread nD τ).loc main_arg0) from W1_args m ρ c main_arg0 (by decide),
    show V1 m ρ c main_arg2 = m ((c.tc : Thread nD τ).loc main_arg2) from W1_args m ρ c main_arg2 (by decide)] at h
  exact h

theorem first_s : (V2 m ρ c main_v2_1 : Arr EReal 10000 128)
    = arr (fun i p => mulT (x m c) (lo (W₁ m c)) i p + b₁ m c p) := by
  have h := (W2_arr m ρ c 4).trans (First.s_eq (V1 m ρ) c)
  rw [show V1 m ρ c main_arg0 = m ((c.tc : Thread nD τ).loc main_arg0) from W1_args m ρ c main_arg0 (by decide),
    show V1 m ρ c main_arg2 = m ((c.tc : Thread nD τ).loc main_arg2) from W1_args m ρ c main_arg2 (by decide),
    bias₁ m ρ c] at h
  exact h

/-- The second launch computes the first layer. -/
theorem second_hid : Second.hid (V2 m ρ) c = hid m c := by
  unfold Second.hid hid kernelHidden
  rw [first_y m ρ c, first_s m ρ c,
    show V2 m ρ c main_arg1 = m ((c.tc : Thread nD τ).loc main_arg1) from W2_args m ρ c main_arg1 (by decide)]
  rfl

/-- After the second launch: the second layer's messages and own terms, and the adjacency matrix in eight bits. -/
theorem second_y : (V3 m ρ c main_v3_0 : Arr EReal 10000 128) = arr (mulT (hid m c) (hi (W₂ m c))) := by
  have h := (W3_arr m ρ c 5).trans (Second.y_eq (V2 m ρ) c)
  rw [second_hid m ρ c,
    show V2 m ρ c main_arg4 = m ((c.tc : Thread nD τ).loc main_arg4) from W2_args m ρ c main_arg4 (by decide)] at h
  exact h

theorem second_s : (V3 m ρ c main_v3_1 : Arr EReal 10000 128)
    = arr (fun i p => mulT (hid m c) (lo (W₂ m c)) i p + b₂ m c p) := by
  have h := (W3_arr m ρ c 6).trans (Second.s_eq (V2 m ρ) c)
  rw [second_hid m ρ c, bias₂' m ρ c,
    show V2 m ρ c main_arg4 = m ((c.tc : Thread nD τ).loc main_arg4) from W2_args m ρ c main_arg4 (by decide)] at h
  exact h

theorem second_q : (V3 m ρ c main_v3_2 : Arr (BitVec 8) 10000 10000) = arr (fun i j => adjWord (adj m c i j)) := by
  have h := (W3_arr m ρ c 7).trans (Second.q_eq (V2 m ρ) c)
  rw [show V2 m ρ c main_arg1 = m ((c.tc : Thread nD τ).loc main_arg1) from W2_args m ρ c main_arg1 (by decide)] at h
  exact h

/-- After the third launch: the messages in eight bits and each column's scale; the rest is as it was. -/
theorem third_q : (V4 m ρ c main_v4_0 : Arr (BitVec 8) 10000 128) = arr (msgWord (mulT (hid m c) (hi (W₂ m c)))) := by
  have h := (W4_arr m ρ c 1).trans (Third.q_eq (V3 m ρ) c)
  rw [second_y m ρ c, tab_arr] at h
  exact h

theorem third_sc : (V4 m ρ c main_v4_1 : Arr EReal 1 128)
    = arr (fun (_ : Fin 1) p => scale (mulT (hid m c) (hi (W₂ m c))) p) := by
  have h := (W4_arr m ρ c 2).trans (Third.sc_eq (V3 m ρ) c)
  rw [second_y m ρ c, tab_arr] at h
  exact h

theorem third_s : (V4 m ρ c main_v3_1 : Arr EReal 10000 128)
    = arr (fun i p => mulT (hid m c) (lo (W₂ m c)) i p + b₂ m c p) :=
  (W4_of m ρ c main_v3_1 (by decide)).trans (second_s m ρ c)

theorem third_a : (V4 m ρ c main_v3_2 : Arr (BitVec 8) 10000 10000) = arr (fun i j => adjWord (adj m c i j)) :=
  (W4_of m ρ c main_v3_2 (by decide)).trans (second_q m ρ c)

/-- The integer sums of the second layer stay where the integer products are exact. -/
def Small : Prop := ∀ i p, absMul (fun i j => adjWord (adj m c i j)) (msgWord (mulT (hid m c) (hi (W₂ m c)))) i p ≤ 2 ^ 26

/-- After the fourth launch the result array holds the second layer of the first layer, as the kernel arranges them. -/
theorem fourth_h (hs : Small m c) :
    (W5 m ρ c main_v5 : Arr EReal 10000 128) = arr (kernelOutput (hid m c) (adj m c) (W₂ m c) (b₂ m c)) := by
  have h := (W5_arr m ρ c 4).trans (Fourth.h_eq (V4 m ρ) c (by
    rw [third_a m ρ c, third_q m ρ c]; exact hs))
  rw [third_a m ρ c, third_q m ρ c, third_s m ρ c, third_sc m ρ c] at h
  exact h

/-! ## The run -/

set_option backward.isDefEq.respectTransparency.types false in
/-- The kernel runs to its end; the result array holds what the fourth launch leaves, and the arguments are as they
    were. -/
theorem run : θ_run defs (onTc (τ := τ) (main (F := Ideal))) ⟨m, fun _ => 0, ρ⟩ (fun r => ∀ c : Dev nD,
      r.2.mem ((c.tc : Thread nD τ).loc main_v5) = W5 m ρ c main_v5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v5 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.Whole

end
-- ==== Proof.RefValue.lean ====
/-
  The reference read as the mathematics: its result is the second layer's `output` on the first layer's `hidden`.
-/
module

public import proofs.«01_k».proof.Proof.Spec
public import proofs.«01_k».proof.Proof.Gen.ReferenceIdeal.Read
public import Idealize.ShloMosaic.Lib.Pointwise

@[expose] public section

set_option maxRecDepth 16384

noncomputable section

namespace Cert.RefValue

open Idealize.ShloMosaic
open Cert.ReferenceIdeal Cert.ReferenceIdeal.Read Cert.Layers

/-- The entries of a vector. -/
abbrev vec (b : Vec Ideal S128 .f32) : Fin 128 → EReal := fun p => b (ix1 p)

variable (x : Vec Ideal S10000x128 .f32) (adj : Vec Ideal S10000x10000 .f32) (W₁ W₂ : Vec Ideal S128x256 .f32)
  (b₁ b₂ : Vec Ideal S128 .f32)

/-- The neighbours' sum of the features. -/
theorem agg_apply (i : Fin 10000) (k : Fin 128) :
    val_main_v0 (F := Ideal) x adj (ix2 i k) = mul (tab adj) (tab x) i k := by
  pointwise [val_main_v0]
  rfl

/-- The first layer before its normalisation. -/
theorem pre_apply (i : Fin 10000) (p : Fin 128) :
    val_main_v6 (F := Ideal) x adj W₁ b₁ (ix2 i p)
      = (mulT (tab x) (lo (tab W₁)) i p + mulT (mul (tab adj) (tab x)) (hi (tab W₁)) i p) + vec b₁ p := by
  pointwise [val_main_v6, val_main_v5, val_main_v4, val_main_v3, val_main_v2, val_main_v1]
  simp only [agg_apply]
  rfl

/-- The first layer. -/
theorem hidden_apply (i : Fin 10000) (p : Fin 128) :
    val_main_v12 (F := Ideal) x adj W₁ b₁ (ix2 i p) = hidden (tab x) (tab adj) (tab W₁) (vec b₁) i p := by
  pointwise [val_main_v12, val_main_v11, val_main_v10, val_main_v9, val_main_v8, val_main_v7, val_main_cst,
    val_main_call0_v2, val_main_call0_v1, val_main_call0_v0, val_main_call0_cst, val_main_call1_v0, val_main_call1_cst]
  simp only [pre_apply]
  rfl

/-- The codes of the adjacency matrix. -/
theorem adjCode_apply (i j : Fin 10000) :
    val_main_v19 (F := Ideal) adj (ix2 i j) = ((adjCode (tab adj i j) : ℝ) : EReal) := by
  pointwise [val_main_v19, val_main_v18, val_main_v17, val_main_v16, val_main_v15, val_main_v14,
    val_main_v13, val_main_cst_0, val_main_cst_1, val_main_cst_2, val_main_cst_3, val_main_call2_v4,
    val_main_call2_v3, val_main_call2_v2, val_main_call2_v1, val_main_call2_v0]
  rfl

/-- The adjacency matrix in eight bits. -/
theorem adj8_apply (i j : Fin 10000) : val_main_v21 (F := Ideal) adj (ix2 i j) = adj8 (tab adj i j) := by
  pointwise [val_main_v21, val_main_v20, val_main_cst_4]
  rw [adjCode_apply]
  rfl

/-- The second layer's messages. -/
theorem msg_apply (i : Fin 10000) (p : Fin 128) :
    val_main_v24 (F := Ideal) x adj W₁ b₁ W₂ (ix2 i p)
      = mulT (hidden (tab x) (tab adj) (tab W₁) (vec b₁)) (hi (tab W₂)) i p := by
  pointwise [val_main_v24, val_main_v23, val_main_v22]
  simp only [hidden_apply]
  rfl

/-- The step of a column. -/
theorem step_apply (p : Fin 128) :
    val_main_v31 (F := Ideal) x adj W₁ b₁ W₂ (ix2 0 p)
      = step (mulT (hidden (tab x) (tab adj) (tab W₁) (vec b₁)) (hi (tab W₂))) p := by
  pointwise [val_main_v31, val_main_v30, val_main_v29, val_main_v28, val_main_v27, val_main_v26, val_main_v25, val_main_cst_5,
    val_main_cst_6, val_main_cst_7]
  simp only [msg_apply]
  rfl

/-- The codes of the messages. -/
theorem msgCode_apply (j : Fin 10000) (p : Fin 128) :
    val_main_v35 (F := Ideal) x adj W₁ b₁ W₂ (ix2 j p)
      = msgCode (mulT (hidden (tab x) (tab adj) (tab W₁) (vec b₁)) (hi (tab W₂))) j p := by
  pointwise [val_main_v35, val_main_v34, val_main_v33, val_main_v32, val_main_cst_8, val_main_cst_9,
    val_main_call4_v4, val_main_call4_v3, val_main_call4_v2, val_main_call4_v1, val_main_call4_v0]
  simp only [msg_apply, step_apply]
  rfl

/-- The messages in eight bits. -/
theorem msg8_apply (j : Fin 10000) (p : Fin 128) :
    val_main_v37 (F := Ideal) x adj W₁ b₁ W₂ (ix2 j p)
      = msg8 (mulT (hidden (tab x) (tab adj) (tab W₁) (vec b₁)) (hi (tab W₂))) j p := by
  pointwise [val_main_v37, val_main_v36]
  simp only [msgCode_apply, step_apply]
  rfl

/-- The second layer before its normalisation. -/
theorem sum_apply (i : Fin 10000) (p : Fin 128) :
    val_main_v45 (F := Ideal) x adj W₁ b₁ W₂ b₂ (ix2 i p)
      = (mulT (hidden (tab x) (tab adj) (tab W₁) (vec b₁)) (lo (tab W₂)) i p
          + mul (fun r j => adj8 (tab adj r j)) (msg8 (mulT (hidden (tab x) (tab adj) (tab W₁) (vec b₁)) (hi (tab W₂)))) i p)
        + vec b₂ p := by
  pointwise [val_main_v45, val_main_v44, val_main_v43, val_main_v42, val_main_v41, val_main_v40, val_main_v39, val_main_v38]
  simp only [hidden_apply, adj8_apply, msg8_apply]
  rfl

/-- The result. -/
theorem result_apply (i : Fin 10000) (p : Fin 128) :
    val_main_v50 (F := Ideal) x adj W₁ b₁ W₂ b₂ (ix2 i p)
      = output (hidden (tab x) (tab adj) (tab W₁) (vec b₁)) (tab adj) (tab W₂) (vec b₂) i p := by
  pointwise [val_main_v50, val_main_v49, val_main_v48, val_main_v47, val_main_v46, val_main_cst_10, val_main_call5_v2,
    val_main_call5_v1, val_main_call5_v0, val_main_call5_cst]
  simp only [sum_apply]
  rfl

end Cert.RefValue

end
-- ==== Proof.Codes.lean ====
/-
  The eight-bit codes.  The word the kernel stores for an entry of the adjacency matrix is the reference's code of it.
  The word it stores for a message is the integer the reference multiplies the column's step with, whichever of the
  two ways of dividing by the step is taken, and it is zero in a column with an infinite peak.
-/
module

public import proofs.«01_k».proof.Proof.Spec

@[expose] public section

noncomputable section

namespace Cert.Layers

open Idealize.ShloMosaic

/-! ## The constants as real numbers -/

theorem c127_eq : c127 = ((127 : ℝ) : EReal) := by
  simp [Ideal.ofBits, Ideal.ieee, -EReal.coe_mul]; norm_num
theorem cHalf_eq : cHalf = ((1 / 2 : ℝ) : EReal) := by
  simp [Ideal.ofBits, Ideal.ieee, -EReal.coe_mul]; norm_num
theorem cNeg128_eq : cNeg128 = ((-128 : ℝ) : EReal) := by
  simp [Ideal.ofBits, Ideal.ieee, -EReal.coe_mul]; norm_num
theorem cNeg127_eq : cNeg127 = ((-127 : ℝ) : EReal) := by
  simp [Ideal.ofBits, Ideal.ieee, -EReal.coe_mul]; norm_num
theorem cTiny_pos : 0 < cTiny := by
  simp [Ideal.ofBits, Ideal.ieee, -EReal.coe_mul]

/-- The larger and the smaller of two real numbers are taken among the reals. -/
theorem coe_max (a b : ℝ) : ((max a b : ℝ) : EReal) = max (a : EReal) (b : EReal) := EReal.coe_strictMono.monotone.map_max
theorem coe_min (a b : ℝ) : ((min a b : ℝ) : EReal) = min (a : EReal) (b : EReal) := EReal.coe_strictMono.monotone.map_min

/-! ## Integers in words -/

/-- An integer between −128 and 127 is read back from its eight-bit word. -/
theorem toInt_ofInt_8 (k : ℤ) (h1 : -128 ≤ k) (h2 : k ≤ 127) : (BitVec.ofInt 8 k).toInt = k := by
  rw [BitVec.toInt_ofInt]; apply Int.bmod_eq_of_le <;> omega

/-- An integer between −128 and 127 is read back from its 32-bit word. -/
theorem toInt_ofInt_32 (k : ℤ) (h1 : -128 ≤ k) (h2 : k ≤ 127) : (BitVec.ofInt 32 k).toInt = k := by
  rw [BitVec.toInt_ofInt]; apply Int.bmod_eq_of_le <;> omega

/-- The eight-bit word of a real number is the integer next to it towards zero, kept between −128 and 127. -/
theorem fptosi8_coe (r : ℝ) : (Ideal.fptosi 8 (r : EReal)).toInt = max (-128) (min 127 (Ideal.truncInt r)) := by
  have h : Ideal.fptosi 8 (r : EReal) = BitVec.ofInt 8 (max (-128) (min 127 (Ideal.truncInt r))) := rfl
  rw [h, toInt_ofInt_8 _ (by omega) (by omega)]

/-- Between −128 and 127 the 32-bit word of a real number is the integer next to it towards zero. -/
theorem fptosi32_coe (r : ℝ) (h1 : -128 ≤ Ideal.truncInt r) (h2 : Ideal.truncInt r ≤ 127) :
    (Ideal.fptosi 32 (r : EReal)).toInt = Ideal.truncInt r := by
  have h : Ideal.fptosi 32 (r : EReal) = BitVec.ofInt 32 (max (-2147483648) (min 2147483647 (Ideal.truncInt r))) := rfl
  rw [h, max_eq_right (by omega), min_eq_right (by omega), toInt_ofInt_32 _ h1 h2]

/-- Cutting to an integer never moves away from zero. -/
theorem truncInt_of_nonneg {r : ℝ} (h : 0 ≤ r) : Ideal.truncInt r = ⌊r⌋ := if_pos h
theorem truncInt_of_neg {r : ℝ} (h : r < 0) : Ideal.truncInt r = ⌈r⌉ := if_neg (not_le.mpr h)

/-- An integer is its own nearest integer towards zero. -/
theorem truncInt_intCast (k : ℤ) : Ideal.truncInt (k : ℝ) = k := by
  unfold Ideal.truncInt; split <;> simp

/-- A real number between −128 and 127 is cut to an integer between −128 and 127. -/
theorem truncInt_mem {r : ℝ} (h1 : -128 ≤ r) (h2 : r ≤ 127) : -128 ≤ Ideal.truncInt r ∧ Ideal.truncInt r ≤ 127 := by
  rcases le_or_gt 0 r with h | h
  · rw [truncInt_of_nonneg h]
    exact ⟨le_trans (by norm_num) (Int.floor_nonneg.mpr h), Int.floor_le_iff.mpr (by push_cast; linarith)⟩
  · rw [truncInt_of_neg h]
    exact ⟨Int.le_ceil_iff.mpr (by push_cast; linarith), Int.ceil_le.mpr (by push_cast; linarith)⟩

/-! ## The adjacency matrix -/

/-- The saturating eight-bit conversion is the reference's clip followed by its 32-bit conversion. -/
theorem saturate (u : EReal) :
    (Ideal.fptosi 8 (min u c127)).toInt = (Ideal.fptosi 32 (min c127 (max cNeg128 u))).toInt := by
  rw [c127_eq, cNeg128_eq]
  induction u with
  | bot =>
    rw [min_eq_left bot_le, max_eq_left bot_le, min_eq_right (by exact_mod_cast (by norm_num : (-128 : ℝ) ≤ 127))]
    have ht : Ideal.truncInt (-128) = -128 := by have := truncInt_intCast (-128); push_cast at this; exact this
    rw [fptosi32_coe _ (by rw [ht]) (by rw [ht]; norm_num), ht]
    rfl
  | top =>
    rw [min_eq_right le_top, max_eq_right le_top, min_eq_left le_top]
    have ht : Ideal.truncInt 127 = 127 := by have := truncInt_intCast 127; push_cast at this; exact this
    rw [fptosi32_coe _ (by rw [ht]; norm_num) (by rw [ht]), fptosi8_coe, ht]
    rfl
  | coe r =>
    rw [← coe_min, ← coe_max, ← coe_min, fptosi8_coe]
    have hm := truncInt_mem (r := min 127 (max (-128) r)) (le_min (by norm_num) (le_max_left _ _)) (min_le_left _ _)
    rw [fptosi32_coe _ hm.1 hm.2]
    rcases le_or_gt r (-128) with h | h
    · rw [max_eq_left h, min_eq_left (by linarith : r ≤ 127), min_eq_right (by norm_num : (-128 : ℝ) ≤ 127)]
      have ht : Ideal.truncInt (-128) = -128 := by have := truncInt_intCast (-128); push_cast at this; exact this
      have hr : Ideal.truncInt r ≤ -128 := by
        rw [truncInt_of_neg (by linarith)]; exact Int.ceil_le.mpr (by push_cast; exact h)
      rw [ht]; omega
    · rw [max_eq_right h.le, min_comm r 127]
      rw [max_eq_right h.le] at hm
      omega

/-- The stored word of an entry of the adjacency matrix is the reference's code of it. -/
theorem adjWord_toInt (a : EReal) : (adjWord a).toInt = adjCode a := saturate _

/-! ## The messages -/

/-- A column's peak is positive. -/
theorem peak_pos {n d : ℕ} (y : Tab n d) (p : Fin d) : 0 < peak y p := lt_of_lt_of_le cTiny_pos (le_max_right _ _)

/-- Dividing by 127. -/
theorem div_127 (x : EReal) : Ideal.div x c127 = x * ((1 / 127 : ℝ) : EReal) := by
  rw [c127_eq, Ideal.div_coe (by norm_num)]

/-- Dividing an infinite step out gives zero. -/
theorem div_top (x : EReal) : Ideal.div x ⊤ = 0 := by
  unfold Ideal.div
  rw [if_neg (by simp), EReal.inv_top, mul_zero]

/-- An entry times the inverse step is the entry over the step. -/
theorem over_step (y s : EReal) (h : 0 < s) : y * Ideal.div c127 s = Ideal.div y (Ideal.div s c127) := by
  rw [div_127]
  induction s with
  | bot => simp at h
  | top => rw [EReal.top_mul_coe_of_pos (by norm_num), div_top, div_top, mul_zero]
  | coe r =>
    have hr : 0 < r := by exact_mod_cast h
    rw [← EReal.coe_mul, Ideal.div_coe hr.ne', Ideal.div_coe (by positivity), c127_eq, ← EReal.coe_mul]
    congr 2
    field_simp

/-- The integer a message is rounded to, kept between −127 and 127. -/
theorem clipped (z : EReal) : ∃ k : ℤ, -127 ≤ k ∧ k ≤ 127 ∧
    min c127 (max cNeg127 (Ideal.liftRound Ideal.roundHalfEven z)) = ((k : ℝ) : EReal) := by
  rw [c127_eq, cNeg127_eq]
  induction z with
  | bot =>
    refine ⟨-127, by norm_num, by norm_num, ?_⟩
    rw [Ideal.liftRound_bot, max_eq_left bot_le, min_eq_right (by exact_mod_cast (by norm_num : (-127 : ℝ) ≤ 127))]
    push_cast; rfl
  | top =>
    refine ⟨127, by norm_num, by norm_num, ?_⟩
    rw [Ideal.liftRound_top, max_eq_right le_top, min_eq_left le_top]
    push_cast; rfl
  | coe r =>
    refine ⟨min 127 (max (-127) (Ideal.roundHalfEven r)), by omega, by omega, ?_⟩
    rw [Ideal.liftRound_coe, ← coe_max, ← coe_min]
    push_cast; rfl

/-- The stored word of a message is its code. -/
theorem msgWord_toInt {n d : ℕ} (y : Tab n d) (j : Fin n) (p : Fin d) :
    (((msgWord y j p).toInt : ℝ) : EReal) = msgCode y j p := by
  unfold msgCode msgWord
  rw [over_step _ _ (peak_pos y p), show Ideal.div (peak y p) c127 = step y p from rfl]
  obtain ⟨k, h1, h2, hk⟩ := clipped (Ideal.div (y j p) (step y p))
  rw [hk, fptosi8_coe, truncInt_intCast, min_eq_right h2, max_eq_right (by omega)]

/-- In a column with an infinite peak every stored word is zero. -/
theorem msgWord_of_top {n d : ℕ} (y : Tab n d) (j : Fin n) (p : Fin d) (h : peak y p = ⊤) : (msgWord y j p).toInt = 0 := by
  unfold msgWord
  have h0 : Ideal.liftRound Ideal.roundHalfEven 0 = 0 := by
    rw [← EReal.coe_zero, Ideal.liftRound_coe]; norm_num [Ideal.roundHalfEven]
  have ht := truncInt_intCast 0
  push_cast at ht
  rw [h, div_top, mul_zero, h0, c127_eq, cNeg127_eq, max_eq_right (by exact_mod_cast (by norm_num : (-127 : ℝ) ≤ 0)),
    min_eq_right (by exact_mod_cast (by norm_num : (0 : ℝ) ≤ 127)), ← EReal.coe_zero, fptosi8_coe, ht]
  rfl

end Cert.Layers

end
-- ==== Proof.Equation.lean ====
/-
  The kernel's arrangement of the two layers equals the reference's: the first layer for finite features, weights and
  adjacency matrix; the second for any first layer.  And the magnitudes that the integer sums total are those of
  the reference's codes.
-/
module

public import proofs.«01_k».proof.Proof.Codes

@[expose] public section

noncomputable section

namespace Cert.Layers

open Idealize.ShloMosaic

/-! ## The first layer -/

/-- A sum of reals is the real sum. -/
theorem sum_coe {n : ℕ} (f : Fin n → ℝ) : ∑ j, ((f j : ℝ) : EReal) = ((∑ j, f j : ℝ) : EReal) := by
  induction n with
  | zero => simp
  | succ n ih => rw [Fin.sum_univ_succ, Fin.sum_univ_succ, ih, EReal.coe_add]

/-- A sum of products of reals is the real sum of the products. -/
theorem sum_coe_mul {n : ℕ} (f g : Fin n → ℝ) :
    ∑ j, ((f j : ℝ) : EReal) * ((g j : ℝ) : EReal) = ((∑ j, f j * g j : ℝ) : EReal) := by
  rw [← sum_coe]
  exact Finset.sum_congr rfl fun j _ => (EReal.coe_mul _ _).symm

/-- The weights may be applied before the neighbours are summed, over finite tables. -/
theorem mul_mulT {n m k d : ℕ} (A : Fin n → Fin m → ℝ) (X : Fin m → Fin k → ℝ) (W : Fin d → Fin k → ℝ) :
    mul (fun i j => ((A i j : ℝ) : EReal)) (mulT (fun j q => ((X j q : ℝ) : EReal)) fun p q => ((W p q : ℝ) : EReal))
      = mulT (mul (fun i j => ((A i j : ℝ) : EReal)) fun j q => ((X j q : ℝ) : EReal)) fun p q => ((W p q : ℝ) : EReal) := by
  funext i p
  unfold mul mulT
  simp only [sum_coe_mul]
  congr 1
  simp only [Finset.mul_sum, Finset.sum_mul]
  rw [Finset.sum_comm]
  exact Finset.sum_congr rfl fun q _ => Finset.sum_congr rfl fun j _ => (mul_assoc _ _ _).symm

/-- A table of finite entries. -/
def Finite {n d : ℕ} (X : Tab n d) : Prop := ∃ X' : Fin n → Fin d → ℝ, X = fun i j => ((X' i j : ℝ) : EReal)

/-- The first layers agree. -/
theorem hidden_eq {n : ℕ} (x : Tab n 128) (adj : Tab n n) (W : Tab 128 256) (b : Fin 128 → EReal)
    (hx : Finite x) (ha : Finite adj) (hW : Finite W) : kernelHidden x adj W b = hidden x adj W b := by
  obtain ⟨x', rfl⟩ := hx
  obtain ⟨a', rfl⟩ := ha
  obtain ⟨W', rfl⟩ := hW
  unfold kernelHidden hidden hiddenOf
  congr 2
  funext i p
  rw [show hi (fun i j => ((W' i j : ℝ) : EReal)) = fun p q => ((W' p ⟨128 + q.val, by omega⟩ : ℝ) : EReal) from rfl,
    mul_mulT, ← add_assoc]
  congr 1
  exact add_comm _ _

/-! ## The second layer -/

/-- The rescaled integer sum is the sum of the products of what the codes stand for. -/
theorem rescale {n m d : ℕ} (adj : Tab n m) (y : Tab m d) (i : Fin n) (p : Fin d) :
    ((intMul (fun i j => adjWord (adj i j)) (msgWord y) i p : ℝ) : EReal) * scale y p
      = mul (fun r j => adj8 (adj r j)) (msg8 y) i p := by
  unfold intMul mul scale
  have hl : ∀ j, adj8 (adj i j) = ((((adjWord (adj i j)).toInt : ℝ) * (1 / 127) : ℝ) : EReal) := fun j => by
    unfold adj8; rw [div_127, adjWord_toInt, EReal.coe_mul]
  have hr : ∀ j, msg8 y j p = (((msgWord y j p).toInt : ℝ) : EReal) * step y p := fun j => by rw [msgWord_toInt]; rfl
  simp only [hl, hr]
  have hp := peak_pos y p
  unfold step
  rw [div_127]
  generalize hs : peak y p = s at hp
  induction s with
  | bot => simp at hp
  | top =>
    simp only [msgWord_of_top y _ p hs]
    simp
  | coe r =>
    simp only [← EReal.coe_mul]
    rw [sum_coe]
    congr 1
    push_cast
    rw [Finset.sum_mul]
    exact Finset.sum_congr rfl fun j _ => by ring

/-- The second layers agree. -/
theorem output_eq {n : ℕ} (h : Tab n 128) (adj : Tab n n) (W : Tab 128 256) (b : Fin 128 → EReal) :
    kernelOutput h adj W b = output h adj W b := by
  unfold kernelOutput output outputOf
  congr 1
  funext i p
  rw [rescale, ← add_assoc]
  congr 1
  exact add_comm _ _

/-! ## The integer sums' magnitude -/

/-- The magnitude of an extended real. -/
def mag (a : EReal) : EReal := max a (-a)

/-- The magnitude of a real number. -/
theorem mag_coe (r : ℝ) : mag (r : EReal) = ((|r| : ℝ) : EReal) := by
  unfold mag; rw [← EReal.coe_neg, ← coe_max]; rfl

/-- The magnitudes of the codes' products total what the magnitudes of the stored words' products do. -/
theorem mul_mag {n m d : ℕ} (adj : Tab n m) (y : Tab m d) (i : Fin n) (p : Fin d) :
    mul (fun i j => mag ((adjCode (adj i j) : ℝ) : EReal)) (fun j p => mag (msgCode y j p)) i p
      = ((absMul (fun i j => adjWord (adj i j)) (msgWord y) i p : ℝ) : EReal) := by
  unfold mul absMul
  simp only [← msgWord_toInt, mag_coe, sum_coe_mul, adjWord_toInt]
  congr 1
  push_cast
  exact Finset.sum_congr rfl fun j _ => by rw [Int.natAbs_mul]; push_cast [Nat.cast_natAbs]; rfl

/-- So a bound on the one is a bound on the other. -/
theorem absMul_le {n m d : ℕ} (adj : Tab n m) (y : Tab m d) (i : Fin n) (p : Fin d) (b : ℕ)
    (h : mul (fun i j => mag ((adjCode (adj i j) : ℝ) : EReal)) (fun j p => mag (msgCode y j p)) i p ≤ ((b : ℝ) : EReal)) :
    absMul (fun i j => adjWord (adj i j)) (msgWord y) i p ≤ b := by
  rw [mul_mag] at h
  exact_mod_cast h

end Cert.Layers

end
-- ==== Proof.Decode.lean ====
/-
  What the precondition says: the features, the adjacency matrix and the first layer's weights are finite, and the
  magnitudes of the products of codes that the second layer sums total at most 2²⁶.
-/
module

public import proofs.«01_k».proof.Proof.Equation
public import proofs.«01_k».proof.Proof.RefValue
public import proofs.«01_k».proof.Proof.Gen.Pre_exact_sums
public import Idealize.ShloMosaic.Lib.ReduceAll
public import Idealize.ShloMosaic.Lib.Pointwise

@[expose] public section

set_option maxRecDepth 16384

noncomputable section

namespace Cert.Decode

open Idealize.ShloMosaic
open Cert.Pre_exact_sums Cert.Layers

/-! ## Comparisons of extended reals -/

theorem inf_eq : Ideal.ofBits .f32 0x7F800000#32 = ⊤ := by simp [Ideal.ofBits, Ideal.ieee]
theorem bound_eq : Ideal.ofBits .f32 0x4C800000#32 = (((2 ^ 26 : ℕ) : ℝ) : EReal) := by
  simp [Ideal.ofBits, Ideal.ieee, -EReal.coe_mul]; norm_num

/-- An extended real whose magnitude is below infinity is a real number. -/
theorem real_of_abs_lt {a : EReal} (h : mag a < ⊤) : ∃ r : ℝ, a = (r : EReal) := by
  induction a with
  | bot => simp [mag] at h
  | top => simp [mag] at h
  | coe r => exact ⟨r, rfl⟩

/-! ## The precondition -/

instance : Subsingleton S_.Idx := ⟨fun _ _ => funext fun k => k.elim0⟩

variable (x : Vec Ideal S10000x128 .f32) (adj : Vec Ideal S10000x10000 .f32) (W₁ W₂ : Vec Ideal S128x256 .f32)
  (b₁ b₂ : Vec Ideal S128 .f32)

/-- A comparison that came out true holds. -/
theorem lt_of_cmp {a b : EReal} (h : Ideal.cmp .olt a b = 1#1) : a < b := by
  by_contra hc
  simp [Ideal.cmp, hc] at h
theorem le_of_cmp {a b : EReal} (h : Ideal.cmp .ole a b = 1#1) : a ≤ b := by
  by_contra hc
  simp [Ideal.cmp, hc] at h

/-- The magnitudes of the reference's codes' products, summed. -/
abbrev total : Vec Ideal S10000x128 .f32 :=
  Host.dotGeneral (F := Ideal) (φ₁ := .f32) (φ₂ := .f32) Cert.ReferenceIdeal.dot_S10000x10000_S10000x128_S10000x128_1_0_0_1_n_n none
    (Host.absf (Cert.ReferenceIdeal.Read.val_main_v19 (F := Ideal) adj))
    (Host.absf (Cert.ReferenceIdeal.Read.val_main_v35 (F := Ideal) x adj W₁ b₁ W₂))

/-- The totals, as mathematics. -/
theorem total_apply (i : Fin 10000) (p : Fin 128) :
    total x adj W₁ W₂ b₁ (ix2 i p)
      = mul (fun i j => mag ((adjCode (tab adj i j) : ℝ) : EReal))
          (fun j p => mag (msgCode (mulT (hidden (tab x) (tab adj) (tab W₁) (RefValue.vec b₁)) (hi (tab W₂))) j p)) i p := by
  unfold total
  pointwise
  simp only [RefValue.adjCode_apply, RefValue.msgCode_apply]
  rfl

/-- A test that every entry of an array passes. -/
theorem finite_of {n d : ℕ} (X : Vec Ideal ⟨2, ![n, d]⟩ .f32)
    (h : ∀ i p, Ideal.cmp .olt (mag (X (ix2 i p))) (Ideal.ofBits .f32 0x7F800000#32) = 1#1) : Finite (tab X) := by
  have hr : ∀ i p, ∃ r : ℝ, X (ix2 i p) = (r : EReal) := fun i p => real_of_abs_lt (by rw [← inf_eq]; exact lt_of_cmp (h i p))
  choose r hr using hr
  exact ⟨r, funext fun i => funext fun p => hr i p⟩

/-- The precondition read. -/
theorem decode (h : fn (F := Ideal) x adj W₁ b₁ W₂ b₂ = fun _ => 1#1) :
    Finite (tab x) ∧ Finite (tab adj) ∧ Finite (tab W₁)
      ∧ ∀ i p, total x adj W₁ W₂ b₁ (ix2 i p) ≤ (((2 ^ 26 : ℕ) : ℝ) : EReal) := by
  have h0 := congrFun h ix0
  unfold fn fn_part1 fn_part2 fn_part3 at h0
  obtain ⟨h1, ht⟩ := IntOp.andi_eq_one.1 h0
  obtain ⟨h2, hW⟩ := IntOp.andi_eq_one.1 h1
  obtain ⟨hx, ha⟩ := IntOp.andi_eq_one.1 h2
  refine ⟨finite_of x fun i p => Host.reduce_andi_all _ _ _ _ _ hx (ix2 i p),
    finite_of adj fun i p => Host.reduce_andi_all _ _ _ _ _ ha (ix2 i p),
    finite_of W₁ fun i p => Host.reduce_andi_all _ _ _ _ _ hW (ix2 i p), fun i p => ?_⟩
  have hi : Ideal.cmp .ole (total x adj W₁ W₂ b₁ (ix2 i p)) (Ideal.ofBits .f32 0x4C800000#32) = 1#1 :=
    Host.reduce_andi_all _ _ _ _ _ ht (ix2 i p)
  rw [← bound_eq]
  exact le_of_cmp hi

end Cert.Decode

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_exact_sums
public import proofs.«01_k».proof.Proof.KernelRun
public import proofs.«01_k».proof.Proof.RefValue
public import proofs.«01_k».proof.Proof.Decode
public import Idealize.ShloMosaic.Lib.Quiescent
public import Idealize.ShloMosaic.Adequacy
public import Idealize.ShloMosaic.Init

@[expose] public section

noncomputable section

namespace Cert.Proof

open Idealize.ShloMosaic Idealize.SL.Sem

/-! ## The frames -/

/-- The kernel, as bits, runs and leaves its arguments unchanged. -/
theorem kernel_frame : Cert.quiescent_Kernel := fun m ρ _ => Cert.Kernel.Gen.frame m ρ

/-- So does the idealised kernel. -/
theorem ideal_frame : Cert.quiescent_KernelIdeal := fun m ρ _ => Cert.KernelIdeal.Gen.frame m ρ

/-- The reference runs and leaves its arguments unchanged; it has no semaphore. -/
theorem reference_frame : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-! ## The constant -/

/-- The idealised kernel's scale constant stands for 1/16129, which the kernel's bits are the nearest float32 to. -/
theorem constant_kept : Cert.preserves_Kernel_KernelIdeal :=
  IdealRules.named_const.statement Cert.KernelIdeal.κ "inv_127_squared" .f32 0x38820610#32 ((16129⁻¹ : ℝ) : EReal) rfl

/-! ## The value -/

open Cert.Layers in
/-- Where the precondition holds the idealised kernel and the reference end in the same array. -/
theorem same_value : Cert.algebraic_KernelIdeal_ReferenceIdeal_pre_exact_sums := fun m ρ m' ρ' hpre hargs => by
  refine ⟨fun c => Cert.KernelIdeal.Gen.W5 m ρ c (Proc.devRef .tc Cert.KernelIdeal.main_v5), Cert.KernelIdeal.Whole.run m ρ, ?_⟩
  refine (θ_run Cert.ReferenceIdeal.defs _ _).mono (fun r h c => ⟨(h c).1.trans ?_, (h c).2⟩)
    (Cert.ReferenceIdeal.Value.run (F := Ideal) m' ρ')
  obtain ⟨h0, h1, h2, h3, h4, h5⟩ := hargs c
  obtain ⟨hx, ha, hW, ht⟩ := Cert.Decode.decode _ _ _ _ _ _ (hpre c)
  rw [Cert.ReferenceIdeal.Read.val_main_v50_eq, h0, h1, h2, h3, h4, h5]
  have hs : Cert.KernelIdeal.Whole.Small m c := fun i p => by
    refine absMul_le _ _ i p _ ?_
    rw [Cert.KernelIdeal.Whole.hid, hidden_eq _ _ _ _ hx ha hW]
    exact (Cert.Decode.total_apply _ _ _ _ _ i p).symm.trans_le (ht i p)
  refine Eq.trans ?_ (Cert.KernelIdeal.Whole.fourth_h m ρ c hs).symm
  funext k
  idx_vars k
  rw [Cert.RefValue.result_apply, output_eq, Cert.KernelIdeal.Whole.hid, hidden_eq _ _ _ _ hx ha hW]
  rfl

theorem claim : Cert.Claim :=
  ⟨Cert.Kernel.Gen.facts, Cert.KernelIdeal.Gen.facts, Cert.ReferenceIdeal.Gen.facts, Cert.Pre_exact_sums.Gen.facts,
    kernel_frame, ideal_frame, fun m ρ _ => ideal_frame m ρ trivial, reference_frame,
    fun m ρ _ => reference_frame m ρ trivial, constant_kept, same_value⟩

end Cert.Proof

end
